-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1024x200 : Shape := ⟨2, ![1024, 200]⟩
abbrev S1000000x128 : Shape := ⟨2, ![1000000, 128]⟩
abbrev S128x128 : Shape := ⟨2, ![128, 128]⟩
abbrev S128 : Shape := ⟨1, ![128]⟩
abbrev S45x128 : Shape := ⟨2, ![45, 128]⟩
abbrev S45 : Shape := ⟨1, ![45]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1000000x128 .f32) (main_arg2 : FVec F S128x128 .f32) (main_arg3 : FVec F S128 .f32) (main_arg4 : FVec F S45x128 .f32) (main_arg5 : FVec F S45 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S1000000x128 : Shape := ⟨2, ![1000000, 128]⟩
abbrev S128x128 : Shape := ⟨2, ![128, 128]⟩
abbrev S128 : Shape := ⟨1, ![128]⟩
abbrev S45x128 : Shape := ⟨2, ![45, 128]⟩
abbrev S45 : Shape := ⟨1, ![45]⟩
abbrev S200x1024 : Shape := ⟨2, ![200, 1024]⟩
abbrev S204800 : Shape := ⟨1, ![204800]⟩
abbrev S1x128 : Shape := ⟨2, ![1, 128]⟩
abbrev S45x1 : Shape := ⟨2, ![45, 1]⟩
abbrev S_ : Shape := ⟨0, ![]⟩
abbrev S40960 : Shape := ⟨1, ![40960]⟩
abbrev S40960x128 : Shape := ⟨2, ![40960, 128]⟩
abbrev S1280 : Shape := ⟨1, ![1280]⟩
abbrev S45x200x1024 : Shape := ⟨3, ![45, 200, 1024]⟩
abbrev S8192x128 : Shape := ⟨2, ![8192, 128]⟩
abbrev S45x8x1024 : Shape := ⟨3, ![45, 8, 1024]⟩
abbrev S1024x128 : Shape := ⟨2, ![1024, 128]⟩
abbrev S45x1024 : Shape := ⟨2, ![45, 1024]⟩
abbrev S45x1x1024 : Shape := ⟨3, ![45, 1, 1024]⟩
abbrev S1024x200x45 : Shape := ⟨3, ![1024, 200, 45]⟩

abbrev nBuf : Table → Nat
  | .hbm => 32
  | .local .tc .vmem => 40
  | .local .scVector .vmem => 35
  | _ => 0

abbrev bufTy : (tb : Table) → Fin (nBuf tb) → BufTy
  | .hbm, ⟨0, _⟩ => ⟨S1024x200, .i32⟩
  | .hbm, ⟨1, _⟩ => ⟨S1000000x128, .f32⟩
  | .hbm, ⟨2, _⟩ => ⟨S128x128, .f32⟩
  | .hbm, ⟨3, _⟩ => ⟨S128, .f32⟩
  | .hbm, ⟨4, _⟩ => ⟨S45x128, .f32⟩
  | .hbm, ⟨5, _⟩ => ⟨S45, .f32⟩
  | .hbm, ⟨6, _⟩ => ⟨S200x1024, .i32⟩
  | .hbm, ⟨7, _⟩ => ⟨S204800, .i32⟩
  | .hbm, ⟨8, _⟩ => ⟨S128x128, .f32⟩
  | .hbm, ⟨9, _⟩ => ⟨S1x128, .f32⟩
  | .hbm, ⟨10, _⟩ => ⟨S45x1, .f32⟩
  | .hbm, ⟨11, _⟩ => ⟨S_, .i32⟩
  | .hbm, ⟨12, _⟩ => ⟨S40960, .i32⟩
  | .hbm, ⟨13, _⟩ => ⟨S40960x128, .f32⟩
  | .hbm, ⟨14, _⟩ => ⟨S_, .i32⟩
  | .hbm, ⟨15, _⟩ => ⟨S40960, .i32⟩
  | .hbm, ⟨16, _⟩ => ⟨S40960x128, .f32⟩
  | .hbm, ⟨17, _⟩ => ⟨S_, .i32⟩
  | .hbm, ⟨18, _⟩ => ⟨S40960, .i32⟩
  | .hbm, ⟨19, _⟩ => ⟨S40960x128, .f32⟩
  | .hbm, ⟨20, _⟩ => ⟨S_, .i32⟩
  | .hbm, ⟨21, _⟩ => ⟨S40960, .i32⟩
  | .hbm, ⟨22, _⟩ => ⟨S40960x128, .f32⟩
  | .hbm, ⟨23, _⟩ => ⟨S_, .i32⟩
  | .hbm, ⟨24, _⟩ => ⟨S40960, .i32⟩
  | .hbm, ⟨25, _⟩ => ⟨S40960x128, .f32⟩
  | .hbm, ⟨26, _⟩ => ⟨S45x200x1024, .f32⟩
  | .hbm, ⟨27, _⟩ => ⟨S45x200x1024, .f32⟩
  | .hbm, ⟨28, _⟩ => ⟨S45x200x1024, .f32⟩
  | .hbm, ⟨29, _⟩ => ⟨S45x200x1024, .f32⟩
  | .hbm, ⟨30, _⟩ => ⟨S45x200x1024, .f32⟩
  | .hbm, ⟨31, _⟩ => ⟨S1024x200x45, .f32⟩
  | .local .tc .vmem, ⟨0, _⟩ => ⟨S8192x128, .f32⟩
  | .local .tc .vmem, ⟨1, _⟩ => ⟨S8192x128, .f32⟩
  | .local .tc .vmem, ⟨2, _⟩ => ⟨S128x128, .f32⟩
  | .local .tc .vmem, ⟨3, _⟩ => ⟨S1x128, .f32⟩
  | .local .tc .vmem, ⟨4, _⟩ => ⟨S45x128, .f32⟩
  | .local .tc .vmem, ⟨5, _⟩ => ⟨S45x1, .f32⟩
  | .local .tc .vmem, ⟨6, _⟩ => ⟨S45x8x1024, .f32⟩
  | .local .tc .vmem, ⟨7, _⟩ => ⟨S45x8x1024, .f32⟩
  | .local .tc .vmem, ⟨8, _⟩ => ⟨S8192x128, .f32⟩
  | .local .tc .vmem, ⟨9, _⟩ => ⟨S8192x128, .f32⟩
  | .local .tc .vmem, ⟨10, _⟩ => ⟨S128x128, .f32⟩
  | .local .tc .vmem, ⟨11, _⟩ => ⟨S1x128, .f32⟩
  | .local .tc .vmem, ⟨12, _⟩ => ⟨S45x128, .f32⟩
  | .local .tc .vmem, ⟨13, _⟩ => ⟨S45x1, .f32⟩
  | .local .tc .vmem, ⟨14, _⟩ => ⟨S45x8x1024, .f32⟩
  | .local .tc .vmem, ⟨15, _⟩ => ⟨S45x8x1024, .f32⟩
  | .local .tc .vmem, ⟨16, _⟩ => ⟨S8192x128, .f32⟩
  | .local .tc .vmem, ⟨17, _⟩ => ⟨S8192x128, .f32⟩
  | .local .tc .vmem, ⟨18, _⟩ => ⟨S128x128, .f32⟩
  | .local .tc .vmem, ⟨19, _⟩ => ⟨S1x128, .f32⟩
  | .local .tc .vmem, ⟨20, _⟩ => ⟨S45x128, .f32⟩
  | .local .tc .vmem, ⟨21, _⟩ => ⟨S45x1, .f32⟩
  | .local .tc .vmem, ⟨22, _⟩ => ⟨S45x8x1024, .f32⟩
  | .local .tc .vmem, ⟨23, _⟩ => ⟨S45x8x1024, .f32⟩
  | .local .tc .vmem, ⟨24, _⟩ => ⟨S8192x128, .f32⟩
  | .local .tc .vmem, ⟨25, _⟩ => ⟨S8192x128, .f32⟩
  | .local .tc .vmem, ⟨26, _⟩ => ⟨S128x128, .f32⟩
  | .local .tc .vmem, ⟨27, _⟩ => ⟨S1x128, .f32⟩
  | .local .tc .vmem, ⟨28, _⟩ => ⟨S45x128, .f32⟩
  | .local .tc .vmem, ⟨29, _⟩ => ⟨S45x1, .f32⟩
  | .local .tc .vmem, ⟨30, _⟩ => ⟨S45x8x1024, .f32⟩
  | .local .tc .vmem, ⟨31, _⟩ => ⟨S45x8x1024, .f32⟩
  | .local .tc .vmem, ⟨32, _⟩ => ⟨S8192x128, .f32⟩
  | .local .tc .vmem, ⟨33, _⟩ => ⟨S8192x128, .f32⟩
  | .local .tc .vmem, ⟨34, _⟩ => ⟨S128x128, .f32⟩
  | .local .tc .vmem, ⟨35, _⟩ => ⟨S1x128, .f32⟩
  | .local .tc .vmem, ⟨36, _⟩ => ⟨S45x128, .f32⟩
  | .local .tc .vmem, ⟨37, _⟩ => ⟨S45x1, .f32⟩
  | .local .tc .vmem, ⟨38, _⟩ => ⟨S45x8x1024, .f32⟩
  | .local .tc .vmem, ⟨39, _⟩ => ⟨S45x8x1024, .f32⟩
  | .local .scVector .vmem, ⟨0, _⟩ => ⟨S1280, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S1280, .i32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | .local .scVector .vmem, ⟨12, _⟩ => ⟨S128x128, .f32⟩
  | .local .scVector .vmem, ⟨13, _⟩ => ⟨S128x128, .f32⟩
  | .local .scVector .vmem, ⟨14, _⟩ => ⟨S1280, .i32⟩
  | .local .scVector .vmem, ⟨15, _⟩ => ⟨S128x128, .f32⟩
  | .local .scVector .vmem, ⟨16, _⟩ => ⟨S128x128, .f32⟩
  | .local .scVector .vmem, ⟨17, _⟩ => ⟨S128x128, .f32⟩
  | .local .scVector .vmem, ⟨18, _⟩ => ⟨S128x128, .f32⟩
  | .local .scVector .vmem, ⟨19, _⟩ => ⟨S128x128, .f32⟩
  | .local .scVector .vmem, ⟨20, _⟩ => ⟨S128x128, .f32⟩
  | .local .scVector .vmem, ⟨21, _⟩ => ⟨S1280, .i32⟩
  | .local .scVector .vmem, ⟨22, _⟩ => ⟨S128x128, .f32⟩
  | .local .scVector .vmem, ⟨23, _⟩ => ⟨S128x128, .f32⟩
  | .local .scVector .vmem, ⟨24, _⟩ => ⟨S128x128, .f32⟩
  | .local .scVector .vmem, ⟨25, _⟩ => ⟨S128x128, .f32⟩
  | .local .scVector .vmem, ⟨26, _⟩ => ⟨S128x128, .f32⟩
  | .local .scVector .vmem, ⟨27, _⟩ => ⟨S128x128, .f32⟩
  | .local .scVector .vmem, ⟨28, _⟩ => ⟨S1280, .i32⟩
  | .local .scVector .vmem, ⟨29, _⟩ => ⟨S128x128, .f32⟩
  | .local .scVector .vmem, ⟨30, _⟩ => ⟨S128x128, .f32⟩
  | .local .scVector .vmem, ⟨31, _⟩ => ⟨S128x128, .f32⟩
  | .local .scVector .vmem, ⟨32, _⟩ => ⟨S128x128, .f32⟩
  | .local .scVector .vmem, ⟨33, _⟩ => ⟨S128x128, .f32⟩
  | .local .scVector .vmem, ⟨34, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 105 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTables nBuf rfl bufTy 4 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v5_scv : Ref sig .scVector := ⟨.hbm, 12, rfl⟩
abbrev main_arg1_scv : Ref sig .scVector := ⟨.hbm, 1, rfl⟩
abbrev main_v6_scv : Ref sig .scVector := ⟨.hbm, 13, rfl⟩
abbrev main_v7_scv : Ref sig .scVector := ⟨.hbm, 15, rfl⟩
abbrev main_v8_scv : Ref sig .scVector := ⟨.hbm, 16, rfl⟩
abbrev main_v9_scv : Ref sig .scVector := ⟨.hbm, 18, rfl⟩
abbrev main_v10_scv : Ref sig .scVector := ⟨.hbm, 19, rfl⟩
abbrev main_v11_scv : Ref sig .scVector := ⟨.hbm, 21, rfl⟩
abbrev main_v12_scv : Ref sig .scVector := ⟨.hbm, 22, rfl⟩
abbrev main_v13_scv : Ref sig .scVector := ⟨.hbm, 24, rfl⟩
abbrev main_v14_scv : Ref sig .scVector := ⟨.hbm, 25, rfl⟩
abbrev cc5_stg0_0 : Ref sig .tc := ⟨.vmem, 0, rfl⟩
abbrev cc5_stg0_1 : Ref sig .tc := ⟨.vmem, 1, rfl⟩
abbrev cc5_stg1_0 : Ref sig .tc := ⟨.vmem, 2, rfl⟩
abbrev cc5_stg2_0 : Ref sig .tc := ⟨.vmem, 3, rfl⟩
abbrev cc5_stg3_0 : Ref sig .tc := ⟨.vmem, 4, rfl⟩
abbrev cc5_stg4_0 : Ref sig .tc := ⟨.vmem, 5, rfl⟩
abbrev cc5_stg5_0 : Ref sig .tc := ⟨.vmem, 6, rfl⟩
abbrev cc5_stg5_1 : Ref sig .tc := ⟨.vmem, 7, rfl⟩
abbrev cc6_stg0_0 : Ref sig .tc := ⟨.vmem, 8, rfl⟩
abbrev cc6_stg0_1 : Ref sig .tc := ⟨.vmem, 9, rfl⟩
abbrev cc6_stg1_0 : Ref sig .tc := ⟨.vmem, 10, rfl⟩
abbrev cc6_stg2_0 : Ref sig .tc := ⟨.vmem, 11, rfl⟩
abbrev cc6_stg3_0 : Ref sig .tc := ⟨.vmem, 12, rfl⟩
abbrev cc6_stg4_0 : Ref sig .tc := ⟨.vmem, 13, rfl⟩
abbrev cc6_stg5_0 : Ref sig .tc := ⟨.vmem, 14, rfl⟩
abbrev cc6_stg5_1 : Ref sig .tc := ⟨.vmem, 15, rfl⟩
abbrev cc7_stg0_0 : Ref sig .tc := ⟨.vmem, 16, rfl⟩
abbrev cc7_stg0_1 : Ref sig .tc := ⟨.vmem, 17, rfl⟩
abbrev cc7_stg1_0 : Ref sig .tc := ⟨.vmem, 18, rfl⟩
abbrev cc7_stg2_0 : Ref sig .tc := ⟨.vmem, 19, rfl⟩
abbrev cc7_stg3_0 : Ref sig .tc := ⟨.vmem, 20, rfl⟩
abbrev cc7_stg4_0 : Ref sig .tc := ⟨.vmem, 21, rfl⟩
abbrev cc7_stg5_0 : Ref sig .tc := ⟨.vmem, 22, rfl⟩
abbrev cc7_stg5_1 : Ref sig .tc := ⟨.vmem, 23, rfl⟩
abbrev cc8_stg0_0 : Ref sig .tc := ⟨.vmem, 24, rfl⟩
abbrev cc8_stg0_1 : Ref sig .tc := ⟨.vmem, 25, rfl⟩
abbrev cc8_stg1_0 : Ref sig .tc := ⟨.vmem, 26, rfl⟩
abbrev cc8_stg2_0 : Ref sig .tc := ⟨.vmem, 27, rfl⟩
abbrev cc8_stg3_0 : Ref sig .tc := ⟨.vmem, 28, rfl⟩
abbrev cc8_stg4_0 : Ref sig .tc := ⟨.vmem, 29, rfl⟩
abbrev cc8_stg5_0 : Ref sig .tc := ⟨.vmem, 30, rfl⟩
abbrev cc8_stg5_1 : Ref sig .tc := ⟨.vmem, 31, rfl⟩
abbrev cc9_stg0_0 : Ref sig .tc := ⟨.vmem, 32, rfl⟩
abbrev cc9_stg0_1 : Ref sig .tc := ⟨.vmem, 33, rfl⟩
abbrev cc9_stg1_0 : Ref sig .tc := ⟨.vmem, 34, rfl⟩
abbrev cc9_stg2_0 : Ref sig .tc := ⟨.vmem, 35, rfl⟩
abbrev cc9_stg3_0 : Ref sig .tc := ⟨.vmem, 36, rfl⟩
abbrev cc9_stg4_0 : Ref sig .tc := ⟨.vmem, 37, rfl⟩
abbrev cc9_stg5_0 : Ref sig .tc := ⟨.vmem, 38, rfl⟩
abbrev cc9_stg5_1 : Ref sig .tc := ⟨.vmem, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_scratch0 : Ref sig .scVector := ⟨.vmem, 7, rfl⟩
abbrev cc1_scratch1 : Ref sig .scVector := ⟨.vmem, 8, rfl⟩
abbrev cc1_scratch2 : Ref sig .scVector := ⟨.vmem, 9, rfl⟩
abbrev cc1_scratch3 : Ref sig .scVector := ⟨.vmem, 10, rfl⟩
abbrev cc1_scratch4 : Ref sig .scVector := ⟨.vmem, 11, rfl⟩
abbrev cc1_scratch5 : Ref sig .scVector := ⟨.vmem, 12, rfl⟩
abbrev cc1_scratch6 : Ref sig .scVector := ⟨.vmem, 13, rfl⟩
abbrev cc2_scratch0 : Ref sig .scVector := ⟨.vmem, 14, rfl⟩
abbrev cc2_scratch1 : Ref sig .scVector := ⟨.vmem, 15, rfl⟩
abbrev cc2_scratch2 : Ref sig .scVector := ⟨.vmem, 16, rfl⟩
abbrev cc2_scratch3 : Ref sig .scVector := ⟨.vmem, 17, rfl⟩
abbrev cc2_scratch4 : Ref sig .scVector := ⟨.vmem, 18, rfl⟩
abbrev cc2_scratch5 : Ref sig .scVector := ⟨.vmem, 19, rfl⟩
abbrev cc2_scratch6 : Ref sig .scVector := ⟨.vmem, 20, rfl⟩
abbrev cc3_scratch0 : Ref sig .scVector := ⟨.vmem, 21, rfl⟩
abbrev cc3_scratch1 : Ref sig .scVector := ⟨.vmem, 22, rfl⟩
abbrev cc3_scratch2 : Ref sig .scVector := ⟨.vmem, 23, rfl⟩
abbrev cc3_scratch3 : Ref sig .scVector := ⟨.vmem, 24, rfl⟩
abbrev cc3_scratch4 : Ref sig .scVector := ⟨.vmem, 25, rfl⟩
abbrev cc3_scratch5 : Ref sig .scVector := ⟨.vmem, 26, rfl⟩
abbrev cc3_scratch6 : Ref sig .scVector := ⟨.vmem, 27, rfl⟩
abbrev cc4_scratch0 : Ref sig .scVector := ⟨.vmem, 28, rfl⟩
abbrev cc4_scratch1 : Ref sig .scVector := ⟨.vmem, 29, rfl⟩
abbrev cc4_scratch2 : Ref sig .scVector := ⟨.vmem, 30, rfl⟩
abbrev cc4_scratch3 : Ref sig .scVector := ⟨.vmem, 31, rfl⟩
abbrev cc4_scratch4 : Ref sig .scVector := ⟨.vmem, 32, rfl⟩
abbrev cc4_scratch5 : Ref sig .scVector := ⟨.vmem, 33, rfl⟩
abbrev cc4_scratch6 : Ref sig .scVector := ⟨.vmem, 34, rfl⟩
abbrev cc5_sem0_0 : DmaSem sig := 65
abbrev cc5_sem0_1 : DmaSem sig := 66
abbrev cc5_sem1_0 : DmaSem sig := 67
abbrev cc5_sem2_0 : DmaSem sig := 68
abbrev cc5_sem3_0 : DmaSem sig := 69
abbrev cc5_sem4_0 : DmaSem sig := 70
abbrev cc5_sem5_0 : DmaSem sig := 71
abbrev cc5_sem5_1 : DmaSem sig := 72
abbrev cc6_sem0_0 : DmaSem sig := 73
abbrev cc6_sem0_1 : DmaSem sig := 74
abbrev cc6_sem1_0 : DmaSem sig := 75
abbrev cc6_sem2_0 : DmaSem sig := 76
abbrev cc6_sem3_0 : DmaSem sig := 77
abbrev cc6_sem4_0 : DmaSem sig := 78
abbrev cc6_sem5_0 : DmaSem sig := 79
abbrev cc6_sem5_1 : DmaSem sig := 80
abbrev cc7_sem0_0 : DmaSem sig := 81
abbrev cc7_sem0_1 : DmaSem sig := 82
abbrev cc7_sem1_0 : DmaSem sig := 83
abbrev cc7_sem2_0 : DmaSem sig := 84
abbrev cc7_sem3_0 : DmaSem sig := 85
abbrev cc7_sem4_0 : DmaSem sig := 86
abbrev cc7_sem5_0 : DmaSem sig := 87
abbrev cc7_sem5_1 : DmaSem sig := 88
abbrev cc8_sem0_0 : DmaSem sig := 89
abbrev cc8_sem0_1 : DmaSem sig := 90
abbrev cc8_sem1_0 : DmaSem sig := 91
abbrev cc8_sem2_0 : DmaSem sig := 92
abbrev cc8_sem3_0 : DmaSem sig := 93
abbrev cc8_sem4_0 : DmaSem sig := 94
abbrev cc8_sem5_0 : DmaSem sig := 95
abbrev cc8_sem5_1 : DmaSem sig := 96
abbrev cc9_sem0_0 : DmaSem sig := 97
abbrev cc9_sem0_1 : DmaSem sig := 98
abbrev cc9_sem1_0 : DmaSem sig := 99
abbrev cc9_sem2_0 : DmaSem sig := 100
abbrev cc9_sem3_0 : DmaSem sig := 101
abbrev cc9_sem4_0 : DmaSem sig := 102
abbrev cc9_sem5_0 : DmaSem sig := 103
abbrev cc9_sem5_1 : DmaSem sig := 104
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k0_off2 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v13 : BitVec 32 := Scalar.addi v2 c0_i32_11
  let c0_i32_12 : BitVec 32 := 0#32
  ![v13.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k1_off2 (i : grid1.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v13 : BitVec 32 := Scalar.addi v2 c0_i32_11
  let c0_i32_12 : BitVec 32 := 0#32
  ![v13.toNat, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k2_off2 (i : grid2.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v13 : BitVec 32 := Scalar.addi v2 c0_i32_11
  let c0_i32_12 : BitVec 32 := 0#32
  ![v13.toNat, 0]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k3_off2 (i : grid3.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v13 : BitVec 32 := Scalar.addi v2 c0_i32_11
  let c0_i32_12 : BitVec 32 := 0#32
  ![v13.toNat, 0]
abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k4_off2 (i : grid4.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v13 : BitVec 32 := Scalar.addi v2 c0_i32_11
  let c0_i32_12 : BitVec 32 := 0#32
  ![v13.toNat, 0]
abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S45x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S45x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S45x8x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 3 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  let c0_i32_1 : BitVec 32 := 0#32
  ![c0_i32.toNat, v0.toNat, c0_i32_0.toNat]

abbrev stage6_0 : Fin 2 → Memref sig .tc .vmem S8192x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S45x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S45x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S45x8x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 3 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  let c0_i32_1 : BitVec 32 := 0#32
  ![c0_i32.toNat, v0.toNat, c0_i32_0.toNat]

abbrev stage7_0 : Fin 2 → Memref sig .tc .vmem S8192x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S45x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S45x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S45x8x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 3 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  let c0_i32_1 : BitVec 32 := 0#32
  ![c0_i32.toNat, v0.toNat, c0_i32_0.toNat]

abbrev stage8_0 : Fin 2 → Memref sig .tc .vmem S8192x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S45x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S45x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S45x8x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![c0_i32.toNat, v0.toNat, c0_i32_0.toNat]

abbrev stage9_0 : Fin 2 → Memref sig .tc .vmem S8192x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S45x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S45x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S45x8x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S1024x200 : Shape := ⟨2, ![1024, 200]⟩
abbrev S1000000x128 : Shape := ⟨2, ![1000000, 128]⟩
abbrev S128x128 : Shape := ⟨2, ![128, 128]⟩
abbrev S128 : Shape := ⟨1, ![128]⟩
abbrev S45x128 : Shape := ⟨2, ![45, 128]⟩
abbrev S45 : Shape := ⟨1, ![45]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩
abbrev S128x45 : Shape := ⟨2, ![128, 45]⟩
abbrev S1024x200x45 : Shape := ⟨3, ![1024, 200, 45]⟩
abbrev S1x1x45 : Shape := ⟨3, ![1, 1, 45]⟩

abbrev nBuf : Space → Nat
  | .hbm => 42
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000000x128, .f32⟩
  | .hbm, ⟨2, _⟩ => ⟨S128x128, .f32⟩
  | .hbm, ⟨3, _⟩ => ⟨S128, .f32⟩
  | .hbm, ⟨4, _⟩ => ⟨S45x128, .f32⟩
  | .hbm, ⟨5, _⟩ => ⟨S45, .f32⟩
  | .hbm, ⟨6, _⟩ => ⟨S_, .i32⟩
  | .hbm, ⟨7, _⟩ => ⟨S1024x200, .i32⟩
  | .hbm, ⟨8, _⟩ => ⟨S1024x200, .i1⟩
  | .hbm, ⟨9, _⟩ => ⟨S_, .i32⟩
  | .hbm, ⟨10, _⟩ => ⟨S1024x200, .i32⟩
  | .hbm, ⟨11, _⟩ => ⟨S1024x200, .i32⟩
  | .hbm, ⟨12, _⟩ => ⟨S1024x200, .i32⟩
  | .hbm, ⟨13, _⟩ => ⟨S1024x200x1, .i32⟩
  | .hbm, ⟨14, _⟩ => ⟨S1, .i32⟩
  | .hbm, ⟨15, _⟩ => ⟨S_, .i32⟩
  | .hbm, ⟨16, _⟩ => ⟨S1024x200x1, .i32⟩
  | .hbm, ⟨17, _⟩ => ⟨S1024x200x1, .i1⟩
  | .hbm, ⟨18, _⟩ => ⟨S1x1x1, .i32⟩
  | .hbm, ⟨19, _⟩ => ⟨S1024x200x1, .i32⟩
  | .hbm, ⟨20, _⟩ => ⟨S1024x200x1, .i1⟩
  | .hbm, ⟨21, _⟩ => ⟨S1024x200x1, .i1⟩
  | .hbm, ⟨22, _⟩ => ⟨S_, .i1⟩
  | .hbm, ⟨23, _⟩ => ⟨S1024x200, .i1⟩
  | .hbm, ⟨24, _⟩ => ⟨S1024x200x128, .f32⟩
  | .hbm, ⟨25, _⟩ => ⟨S1024x200x128, .i1⟩
  | .hbm, ⟨26, _⟩ => ⟨S_, .f32⟩
  | .hbm, ⟨27, _⟩ => ⟨S1024x200x128, .f32⟩
  | .hbm, ⟨28, _⟩ => ⟨S1024x200x128, .f32⟩
  | .hbm, ⟨29, _⟩ => ⟨S128x128, .f32⟩
  | .hbm, ⟨30, _⟩ => ⟨S1024x200x128, .f32⟩
  | .hbm, ⟨31, _⟩ => ⟨S1x1x128, .f32⟩
  | .hbm, ⟨32, _⟩ => ⟨S1024x200x128, .f32⟩
  | .hbm, ⟨33, _⟩ => ⟨S1024x200x128, .f32⟩
  | .hbm, ⟨34, _⟩ => ⟨S_, .f32⟩
  | .hbm, ⟨35, _⟩ => ⟨S1024x200x128, .f32⟩
  | .hbm, ⟨36, _⟩ => ⟨S1024x200x128, .f32⟩
  | .hbm, ⟨37, _⟩ => ⟨S128x45, .f32⟩
  | .hbm, ⟨38, _⟩ => ⟨S1024x200x45, .f32⟩
  | .hbm, ⟨39, _⟩ => ⟨S1x1x45, .f32⟩
  | .hbm, ⟨40, _⟩ => ⟨S1024x200x45, .f32⟩
  | .hbm, ⟨41, _⟩ => ⟨S1024x200x45, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩

abbrev nD : Nat := 1
abbrev τ : Topo := Topo.v7x

variable {F : FTy → Type} [FloatOps F]
-- ==== Proof.Setup.lean ====
/-
  The set-up of the launch: the labels and definitions as the launch theorem sees them, the resource algebra, and the
  names of the buffers and of their locations.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds

variable {F : FTy → Type}

/-- The labels of the program the SparseCore calls are added to: the kernels' and the pipelines'. -/
abbrev ΛP : Labels := Pipeline.Sig Λ₀ (Fin 5) fun p => (pcfgs (F := F) p).Adm
/-- The five SparseCore calls. -/
abbrev K : SparseCore.Cfg τ sig (ΛP (F := F)) 5 := sc (F := F)
/-- The kernels' bodies with the pipelines added. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the five calls' launch semaphores. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the launch's handshakes. -/
abbrev UH : Type := URounds (GSem nD τ sig) ℕ
/-- The resource algebra: the handshakes' rounds, the pipelines' rounds, the transfers' counters. -/
abbrev UU : Type := UH × (URounds (GSem nD τ sig) Unit × Counters)

/-- Where the handshakes' rounds live. -/
abbrev EH : Emb UH (MT nD τ sig (HIx 5) (Elt F) ℕ UU ℕ) := embL

end Cert.Proof.Lookup
-- ==== Proof.Block.lean ====
/-
  What the TensorCore kernel does at one grid point, over any whole buffers: from a block of gathered rows and the two
  layers' weights and biases it leaves the block of results. The later calls' kernels are the first one's text with one
  more operand they do not use.
-/
module

public import proofs.«01_k».proof.Proof.Setup
public import proofs.«01_k».proof.Proof.Gen.KernelIdeal.Skeleton
public import proofs.«01_k».proof.Proof.Gen.KernelIdeal.Points
public import Idealize.ShloMosaic.Lib.ValueIdxCore
public import Idealize.ShloMosaic.Lib.Pipeline.FrameBody
public import Idealize.ShloMosaic.Lib.Pipeline.Value

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- The rows the kernel stores: row `j` of the block, every class and every column. -/
abbrev rowRect0 : Rect S45x8x1024 := Rect.unit (s := S45x8x1024) ![0, 0, 0] S45x1x1024.size inb_S45x8x1024_S45x1x1024_0_0_0
abbrev rowRect1 : Rect S45x8x1024 := Rect.unit (s := S45x8x1024) ![0, 1, 0] S45x1x1024.size inb_S45x8x1024_S45x1x1024_0_1_0
abbrev rowRect2 : Rect S45x8x1024 := Rect.unit (s := S45x8x1024) ![0, 2, 0] S45x1x1024.size inb_S45x8x1024_S45x1x1024_0_2_0
abbrev rowRect3 : Rect S45x8x1024 := Rect.unit (s := S45x8x1024) ![0, 3, 0] S45x1x1024.size inb_S45x8x1024_S45x1x1024_0_3_0
abbrev rowRect4 : Rect S45x8x1024 := Rect.unit (s := S45x8x1024) ![0, 4, 0] S45x1x1024.size inb_S45x8x1024_S45x1x1024_0_4_0
abbrev rowRect5 : Rect S45x8x1024 := Rect.unit (s := S45x8x1024) ![0, 5, 0] S45x1x1024.size inb_S45x8x1024_S45x1x1024_0_5_0
abbrev rowRect6 : Rect S45x8x1024 := Rect.unit (s := S45x8x1024) ![0, 6, 0] S45x1x1024.size inb_S45x8x1024_S45x1x1024_0_6_0
abbrev rowRect7 : Rect S45x8x1024 := Rect.unit (s := S45x8x1024) ![0, 7, 0] S45x1x1024.size inb_S45x8x1024_S45x1x1024_0_7_0

/-- The block of results for a block `g` of gathered rows, first-layer weights `w` and bias `b`, second-layer weights
    `u` and bias `c`: eight rows, laid over one another. -/
def mlpBlock (g : Vec F S8192x128 .f32) (w : Vec F S128x128 .f32) (b : Vec F S1x128 .f32) (u : Vec F S45x128 .f32) (c : Vec F S45x1 .f32) :
    S45x8x1024.Idx → Elt F .f32 :=
  View.canon (Val := Elt F) (s := S45x8x1024) (e := .f32)
    [⟨rowRect7, k5_pay3 (k5_pay4 g w b) u c⟩, ⟨rowRect6, k5_pay2 (k5_pay4 g w b) u c⟩,
      ⟨rowRect5, k5_pay1 u (k5_pay10 (k5_pay4 g w b)) (constant S45x1024 .f32 0x00000000#32) c⟩,
      ⟨rowRect4, k5_pay9 (k5_pay4 g w b) u c⟩, ⟨rowRect3, k5_pay8 (k5_pay4 g w b) u c⟩, ⟨rowRect2, k5_pay7 (k5_pay4 g w b) u c⟩,
      ⟨rowRect1, k5_pay6 g w b u c⟩, ⟨rowRect0, k5_pay5 g w b u c⟩]

/-- The eight rows cover the block. -/
theorem rows_cover (p0 p1 p2 p3 p4 p5 p6 p7 : Vec F S45x1x1024 .f32) (y : S45x8x1024.Idx) :
    ∃ pc ∈ ([⟨rowRect7, p7⟩, ⟨rowRect6, p6⟩, ⟨rowRect5, p5⟩, ⟨rowRect4, p4⟩, ⟨rowRect3, p3⟩, ⟨rowRect2, p2⟩, ⟨rowRect1, p1⟩, ⟨rowRect0, p0⟩] :
      List (View.Piece (Elt F) S45x8x1024 .f32)), y ∈ pc.1.set :=
  View.cover_of_tiled [⟨rowRect7, p7⟩, ⟨rowRect6, p6⟩, ⟨rowRect5, p5⟩, ⟨rowRect4, p4⟩, ⟨rowRect3, p3⟩, ⟨rowRect2, p2⟩, ⟨rowRect1, p1⟩, ⟨rowRect0, p0⟩]
    S45x1x1024.size (by rfl) y

section

variable (arg1 : Memref sig .tc .vmem S8192x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S45x128 .f32) (harg4 : arg4.IsWhole)
  (arg5 : Memref sig .tc .vmem S45x1 .f32) (harg5 : arg5.IsWhole) (arg6 : Memref sig .tc .vmem S45x8x1024 .f32) (harg6 : arg6.IsWhole)

private theorem hz : (![0, 0] : Fin 2 → Nat) = fun _ => 0 := funext fun a => by fin_cases a <;> rfl

set_option maxHeartbeats 4000000 in
/-- The first call's kernel on whole buffers: the five operands as they were, the result's buffer at the block. -/
theorem block_body (c : Dev nD) (E : Set ℕ) (i : grid5.Coords)
    (x0 : Vec F S8192x128 .f32) (x1 : Vec F S128x128 .f32) (x2 : Vec F S1x128 .f32) (x3 : Vec F S45x128 .f32) (x4 : Vec F S45x1 .f32)
    (Q : PUnit → sProp 𝕄) :
    iprop((owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ (∃ d, owns (c : Thread nD τ) arg6 fullShare d))
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ owns (c : Thread nD τ) arg6 fullShare (mlpBlock x0 x1 x2 x3 x4)) -∗ Q ⟨⟩))
      ⊢ wp frame (wpE (defs₀ (F := F)) 𝒱₀ c none) E
          (cc5__mlp_kernel_first i arg1 harg1 arg2 harg2 arg3 harg3 arg4 harg4 arg5 harg5 arg6 harg6) Q := by
  rw [cc5__mlp_kernel_first_eq_skeleton]; unfold cc5__mlp_kernel_first_skel
  rw [k5_part1_eq_skeleton, k5_part2_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%d, %f5, -, H5⟩⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (rows_cover _ _ _ _ _ _ _ _)).trans ?_
  sl_unfold_words
  rw [View.readAt_eq_ld, View.readAt_eq_ld, View.readAt_eq_ld, View.readAt_eq_ld, View.readAt_eq_ld]
  rw [View.ld_unit_zero (S := S8192x128) hz, View.ld_unit_zero (S := S128x128) hz, View.ld_unit_zero (S := S1x128) hz,
    View.ld_unit_zero (S := S45x128) hz, View.ld_unit_zero (S := S45x1) hz]
  unfold mlpBlock
  rfl

end

section

variable (arg1 : Memref sig .tc .vmem S8192x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S45x128 .f32) (harg4 : arg4.IsWhole)
  (arg5 : Memref sig .tc .vmem S45x1 .f32) (harg5 : arg5.IsWhole) (arg6 : Memref sig .tc .hbm S45x200x1024 .f32) (harg6 : arg6.IsWhole)
  (arg7 : Memref sig .tc .vmem S45x8x1024 .f32) (harg7 : arg7.IsWhole)

set_option maxRecDepth 65536 in
/-- The later calls' kernels are the first call's, on the operands other than the result so far. -/
theorem cc6_eq (i : grid5.Coords) : cc6__mlp_kernel_acc (F := F) i arg1 harg1 arg2 harg2 arg3 harg3 arg4 harg4 arg5 harg5 arg6 harg6 arg7 harg7
    = cc5__mlp_kernel_first i arg1 harg1 arg2 harg2 arg3 harg3 arg4 harg4 arg5 harg5 arg7 harg7 := rfl
set_option maxRecDepth 65536 in
theorem cc7_eq (i : grid5.Coords) : cc7__mlp_kernel_acc (F := F) i arg1 harg1 arg2 harg2 arg3 harg3 arg4 harg4 arg5 harg5 arg6 harg6 arg7 harg7
    = cc5__mlp_kernel_first i arg1 harg1 arg2 harg2 arg3 harg3 arg4 harg4 arg5 harg5 arg7 harg7 := rfl
set_option maxRecDepth 65536 in
theorem cc8_eq (i : grid5.Coords) : cc8__mlp_kernel_acc (F := F) i arg1 harg1 arg2 harg2 arg3 harg3 arg4 harg4 arg5 harg5 arg6 harg6 arg7 harg7
    = cc5__mlp_kernel_first i arg1 harg1 arg2 harg2 arg3 harg3 arg4 harg4 arg5 harg5 arg7 harg7 := rfl
set_option maxRecDepth 65536 in
theorem cc9_eq (i : grid5.Coords) : cc9__mlp_kernel_acc (F := F) i arg1 harg1 arg2 harg2 arg3 harg3 arg4 harg4 arg5 harg5 arg6 harg6 arg7 harg7
    = cc5__mlp_kernel_first i arg1 harg1 arg2 harg2 arg3 harg3 arg4 harg4 arg5 harg5 arg7 harg7 := rfl

end

end Cert.Proof.Lookup
-- ==== Proof.Dense.lean ====
/-
  A block of results of the two dense layers, over the extended reals, read at an entry.
-/
module

public import proofs.«01_k».proof.Proof.Block
public import Idealize.ShloMosaic.Lib.Pipeline.ValueKit.Tiles
public import Idealize.ShloMosaic.Lib.Pointwise

@[expose] public section

noncomputable section

namespace Cert.Proof.Lookup

open Cert.KernelIdeal Cert.KernelIdeal.Gen

open Idealize.ShloMosaic Idealize.ShloMosaic.TcCoe
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

set_option maxRecDepth 16384

/-- The two layers at one row `f` of the table: the second layer's weights `u` and bias `c` of a class on what the first
    layer's weights `w` and bias `b` leave above zero. -/
def scored (f : Fin 128 → EReal) (w : Fin 128 → Fin 128 → EReal) (b : Fin 128 → EReal) (u : Fin 128 → EReal) (c : EReal) : EReal :=
  (∑ k : Fin 128, u k * max ((∑ j : Fin 128, f j * w j k) + b k) 0) + c

/-- The first layer of a block of rows at an entry. -/
theorem hidden_apply (g : Vec Ideal S8192x128 .f32) (w : Vec Ideal S128x128 .f32) (b : Vec Ideal S1x128 .f32) (n : Fin 8192) (k : Fin 128) :
    k5_pay4 (F := Ideal) g w b (ix2 n k) = max ((∑ j : Fin 128, g (ix2 n j) * w (ix2 j k)) + b (ix2 (0 : Fin 1) k)) 0 := by
  pointwise [k5_pay4]

/-- The second layer on 1024 rows of a block, from row `off`. -/
def rowOf {F : FTy → Type} [FloatOps F] (off : ℕ) (hs : S8192x128.Slices ![off, 0] S1024x128) (h : FVec F S8192x128 .f32) (u : Vec F S45x128 .f32) (c : Vec F S45x1 .f32) : FVec F S45x1x1024 .f32 :=
  shapeCast S45x1x1024
    (addf (matmul dot_S45x128_S1024x128_S45x1024_1_1_0_0_n_n none u (extractStridedSlice S1024x128 ![off, 0] h hs) (constant S45x1024 .f32 0x00000000#32))
      (broadcastTo S45x1024 (shapeCast S45x1 c shapeCasts_S45x1_S45x1) broadcasts_S45x1_S45x1024))
    shapeCasts_S45x1024_S45x1x1024

/-- The second layer at an entry. -/
theorem rowOf_apply (off : ℕ) (hs : S8192x128.Slices ![off, 0] S1024x128) (h : FVec Ideal S8192x128 .f32) (u : Vec Ideal S45x128 .f32) (c : Vec Ideal S45x1 .f32)
    (o : Fin 45) (z : Fin 1) (i : Fin 1024) (n : Fin 8192) (hn : n.val = off + i.val) :
    rowOf (F := Ideal) off hs h u c (ix3 o z i) = (∑ k : Fin 128, u (ix2 o k) * h (ix2 n k)) + c (ix2 o (0 : Fin 1)) := by
  obtain ⟨n, h'⟩ := n
  obtain rfl : n = off + i.val := hn
  pointwise [rowOf]

/-- Row `r` of a block of results holds `1024` rows of the table scored. -/
theorem tile_at (r : ℕ) (hr : r < 8) (hs : S8192x128.Slices ![1024 * r, 0] S1024x128)
    (g : Vec Ideal S8192x128 .f32) (w : Vec Ideal S128x128 .f32) (b : Vec Ideal S1x128 .f32) (u : Vec Ideal S45x128 .f32) (c : Vec Ideal S45x1 .f32)
    (o : Fin 45) (q : Fin 8) (i : Fin 1024) :
    View.TileAt (S := S45x8x1024) (Val := Elt Ideal) (e := .f32) (ix3 o q i) ![0, r, 0] S45x1x1024.size (rowOf (F := Ideal) (1024 * r) hs (k5_pay4 (F := Ideal) g w b) u c)
      (scored (fun j => g (ix2 (⟨1024 * q.val + i.val, by omega⟩ : Fin 8192) j)) (fun j k => w (ix2 j k)) (fun k => b (ix2 (0 : Fin 1) k)) (fun k => u (ix2 o k)) (c (ix2 o (0 : Fin 1)))) := by
  intro x hx
  have h0 : o = x 0 := Fin.ext ((hx 0).trans (Nat.zero_add _))
  have h1 : q.val = r + (x 1).val := hx 1
  have h2 : i = x 2 := Fin.ext ((hx 2).trans (Nat.zero_add _))
  have hx1 : (x 1).val < 1 := (x 1).isLt
  have e : x = ix3 o (x 1) i := by rw [h0, h2]; exact eq_ix3 x
  rw [e]
  refine (rowOf_apply _ hs _ u c o _ i (⟨1024 * q.val + i.val, by omega⟩ : Fin 8192) (by show 1024 * q.val + i.val = 1024 * r + i.val; rw [h1]; omega)).trans ?_
  unfold scored
  simp only [hidden_apply]

/-- A block of results at an entry. -/
theorem mlpBlock_apply (g : Vec Ideal S8192x128 .f32) (w : Vec Ideal S128x128 .f32) (b : Vec Ideal S1x128 .f32) (u : Vec Ideal S45x128 .f32) (c : Vec Ideal S45x1 .f32)
    (o : Fin 45) (q : Fin 8) (i : Fin 1024) :
    mlpBlock (F := Ideal) g w b u c (ix3 o q i)
      = scored (fun j => g (ix2 (⟨1024 * q.val + i.val, by omega⟩ : Fin 8192) j)) (fun j k => w (ix2 j k)) (fun k => b (ix2 (0 : Fin 1) k)) (fun k => u (ix2 o k)) (c (ix2 o (0 : Fin 1))) := by
  unfold mlpBlock
  refine View.canon_eq_of_allAt _ _ _ (rows_cover _ _ _ _ _ _ _ _ _) ?_
  have ht := fun r hr hs => tile_at r hr hs g w b u c o q i
  exact View.allAt_cons_unit _ _ _ _ _ (ht 7 (by decide) slices_S8192x128_o7168_0_S1024x128)
    (View.allAt_cons_unit _ _ _ _ _ (ht 6 (by decide) slices_S8192x128_o6144_0_S1024x128)
    (View.allAt_cons_unit _ _ _ _ _ (ht 5 (by decide) slices_S8192x128_o5120_0_S1024x128)
    (View.allAt_cons_unit _ _ _ _ _ (ht 4 (by decide) slices_S8192x128_o4096_0_S1024x128)
    (View.allAt_cons_unit _ _ _ _ _ (ht 3 (by decide) slices_S8192x128_o3072_0_S1024x128)
    (View.allAt_cons_unit _ _ _ _ _ (ht 2 (by decide) slices_S8192x128_o2048_0_S1024x128)
    (View.allAt_cons_unit _ _ _ _ _ (ht 1 (by decide) slices_S8192x128_o1024_0_S1024x128)
    (View.allAt_cons_unit _ _ _ _ _ (ht 0 (by decide) slices_S8192x128_o0_0_S1024x128)
    (View.allAt_nil _ _))))))))

end Cert.Proof.Lookup
-- ==== Proof.Data.lean ====
/-
  The five TensorCore calls' proof data: what each window's staging buffer holds around each grid point, from the
  contents of the arrays when the call starts, and each call's body obligation.
-/
module

public import proofs.«01_k».proof.Proof.Block
public import proofs.«01_k».proof.Proof.Gen.KernelIdeal.Launch

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- What a call's body does not touch: the buffers that stage nothing, and the generator register. -/
def idleInv {gr W : Nat} (win : Fin W → Pipeline.WinSpec sig gr) (c : Dev nD) : sProp 𝕄 :=
  iprop(Pipeline.scopedRest (Ix := HIx 5) (Name := ℕ) (U := UU) (Lvl := ℕ) (Val := Elt F) win c ∗ ∃ r, prngReg c r)

/-- The waits a core may have recorded so far: those at or below level `b`. -/
def lowWaits (b : ℕ) (c : Dev nD) : Set (SemLoc sig × HIx 5) := {p | (K (F := F)).lev (T c, p.1) p.2 ≤ b}

/-- The body's triple with the untouched rest `R` carried along, each buffer's contents before it under a quantifier. -/
theorem body_around (arg1 : Memref sig .tc .vmem S8192x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S45x128 .f32) (harg4 : arg4.IsWhole)
    (arg5 : Memref sig .tc .vmem S45x1 .f32) (harg5 : arg5.IsWhole) (arg6 : Memref sig .tc .vmem S45x8x1024 .f32) (harg6 : arg6.IsWhole)
    (c : Dev nD) (i : grid5.Coords)
    (x0 : Vec F S8192x128 .f32) (x1 : Vec F S128x128 .f32) (x2 : Vec F S1x128 .f32) (x3 : Vec F S45x128 .f32) (x4 : Vec F S45x1 .f32)
    {D0 D1 D2 D3 D4 D5 : Type} (y : D5 → Vec F S45x8x1024 .f32) (R R' : sProp 𝕄) :
    iprop(R ∗ R' ∗ (∃ _d : D0, owns (c : Thread nD τ) arg1 fullShare x0) ∗ (∃ _d : D1, owns (c : Thread nD τ) arg2 fullShare x1)
        ∗ (∃ _d : D2, owns (c : Thread nD τ) arg3 fullShare x2) ∗ (∃ _d : D3, owns (c : Thread nD τ) arg4 fullShare x3)
        ∗ (∃ _d : D4, owns (c : Thread nD τ) arg5 fullShare x4) ∗ (∃ d : D5, owns (c : Thread nD τ) arg6 fullShare (y d)))
      ⊢ wp frame (wpE (defs₀ (F := F)) 𝒱₀ c none) Set.univ
          (cc5__mlp_kernel_first i arg1 harg1 arg2 harg2 arg3 harg3 arg4 harg4 arg5 harg5 arg6 harg6)
          fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (mlpBlock x0 x1 x2 x3 x4)) := by
  iintro ⟨HR, HR', ⟨%d0, H0⟩, ⟨%d1, H1⟩, ⟨%d2, H2⟩, ⟨%d3, H3⟩, ⟨%d4, H4⟩, ⟨%d5, H5⟩⟩
  iapply (block_body arg1 harg1 arg2 harg2 arg3 harg3 arg4 harg4 arg5 harg5 arg6 harg6 c Set.univ i x0 x1 x2 x3 x4 _)
  isplitl [H0 H1 H2 H3 H4 H5]
  · isplitl [H0]; · iexact H0
    isplitl [H1]; · iexact H1
    isplitl [H2]; · iexact H2
    isplitl [H3]; · iexact H3
    isplitl [H4]; · iexact H4
    iexists _; iexact H5
  iintro ⟨H0, H1, H2, H3, H4, H5⟩
  isplitl [HR]; · iexact HR
  isplitl [HR']; · iexact HR'
  isplitl [H0]; · iexact H0
  isplitl [H1]; · iexact H1
  isplitl [H2]; · iexact H2
  isplitl [H3]; · iexact H3
  isplitl [H4]; · iexact H4
  iexact H5

variable (b : ℕ) (V : Valuation τ sig (Elt F))

/-! ## Call 0 -/

/-- Window `w`'s block at point `t`, read off the array's contents at the start. -/
def blk5 (w : Fin cfg5.W) (t : Fin cfg5.N) : ((cfg5.win w).xblock (cfg5.grid.coords t)).Idx → Elt F (cfg5.win w).elt :=
  ((cfg5.win w).blk t).view.read (Elt F) (V (Proc.devRef .tc (Pipeline.arrRef spec5 w)))

/-- The proof data of call 0: an operand's buffer at its block, the result's at the block the body computes. -/
def dat5 (c : Dev nD) : Dat τ (Elt F) (HIx 5) ℕ UU ℕ cfg5 c where
  A w := V (Proc.devRef .tc (Pipeline.arrRef spec5 w))
  after w t := match w with
    | ⟨0, _⟩ => blk5 V 0 t
    | ⟨1, _⟩ => blk5 V 1 t
    | ⟨2, _⟩ => blk5 V 2 t
    | ⟨3, _⟩ => blk5 V 3 t
    | ⟨4, _⟩ => blk5 V 4 t
    | ⟨5, _⟩ => mlpBlock (blk5 V 0 t) (blk5 V 1 t) (blk5 V 2 t) (blk5 V 3 t) (blk5 V 4 t)
  Φ _ := idleInv spec5 c
  q _ := fullShare
  owed _ := 0
  recorded _ := lowWaits (F := F) b c

/-- An operand's staging buffer holds its block at every point. -/
theorem before5_0 (c : Dev nD) (t : Fin cfg5.N) (d) : (dat5 b V c).before 0 t d = blk5 V 0 t :=
  (Dat.before_in_eq_fetched _ 0 rfl (fun _ => rfl) (fun _ _ _ => rfl) (fun _ => rfl) t d).trans rfl
theorem before5_1 (c : Dev nD) (t : Fin cfg5.N) (d) : (dat5 b V c).before 1 t d = blk5 V 1 t :=
  (Dat.before_in_eq_fetched _ 1 rfl (fun _ => rfl) (fun _ _ _ => rfl) (fun _ => rfl) t d).trans rfl
theorem before5_2 (c : Dev nD) (t : Fin cfg5.N) (d) : (dat5 b V c).before 2 t d = blk5 V 2 t :=
  (Dat.before_in_eq_fetched _ 2 rfl (fun _ => rfl) (fun _ _ _ => rfl) (fun _ => rfl) t d).trans rfl
theorem before5_3 (c : Dev nD) (t : Fin cfg5.N) (d) : (dat5 b V c).before 3 t d = blk5 V 3 t :=
  (Dat.before_in_eq_fetched _ 3 rfl (fun _ => rfl) (fun _ _ _ => rfl) (fun _ => rfl) t d).trans rfl
theorem before5_4 (c : Dev nD) (t : Fin cfg5.N) (d) : (dat5 b V c).before 4 t d = blk5 V 4 t :=
  (Dat.before_in_eq_fetched _ 4 rfl (fun _ => rfl) (fun _ _ _ => rfl) (fun _ => rfl) t d).trans rfl
/-- What the body leaves, window by window. -/
theorem after5_0 (c : Dev nD) (t : Fin cfg5.N) : (dat5 b V c).after 0 t = blk5 V 0 t := by dsimp only [dat5]
theorem after5_1 (c : Dev nD) (t : Fin cfg5.N) : (dat5 b V c).after 1 t = blk5 V 1 t := by dsimp only [dat5]
theorem after5_2 (c : Dev nD) (t : Fin cfg5.N) : (dat5 b V c).after 2 t = blk5 V 2 t := by dsimp only [dat5]
theorem after5_3 (c : Dev nD) (t : Fin cfg5.N) : (dat5 b V c).after 3 t = blk5 V 3 t := by dsimp only [dat5]
theorem after5_4 (c : Dev nD) (t : Fin cfg5.N) : (dat5 b V c).after 4 t = blk5 V 4 t := by dsimp only [dat5]
theorem after5_5 (c : Dev nD) (t : Fin cfg5.N) : (dat5 b V c).after 5 t = mlpBlock (blk5 V 0 t) (blk5 V 1 t) (blk5 V 2 t) (blk5 V 3 t) (blk5 V 4 t) := by dsimp only [dat5]

/-- The body's obligation at every point. -/
theorem obligation5 (c : Dev nD) : BodyObligation (dat5 b V c) (defs₀ (F := F)) 𝒱₀ none Set.univ := fun t => by
  rw [bigSep_W5, bigSep_W5,
    show defs₀ (F := F) .tc cfg5.body (cfg5.bodyArgs t (cfg5.slots t)) = bodyAt5 t from rfl]
  unfold bodyAt5
  dsimp only
  simp only [before5_0, before5_1, before5_2, before5_3, before5_4]
  rw [show (dat5 b V c).Φ t.succ = (dat5 b V c).Φ t.castSucc from rfl,
    show (dat5 b V c).owesAt none t.succ = (dat5 b V c).owesAt none t.castSucc from rfl,
    after5_0, after5_1, after5_2, after5_3, after5_4, after5_5]
  exact triple_restated (body_around (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5))
    c (grid5.coords t) (blk5 V 0 t) (blk5 V 1 t) (blk5 V 2 t) (blk5 V 3 t) (blk5 V 4 t)
    (fun d => (dat5 b V c).before 5 t d) ((dat5 b V c).Φ t.castSucc) ((dat5 b V c).owesAt none t.castSucc)) rfl .rfl fun _ => .rfl

/-! ## Call 1 -/

/-- Window `w`'s block at point `t`, read off the array's contents at the start. -/
def blk6 (w : Fin cfg6.W) (t : Fin cfg6.N) : ((cfg6.win w).xblock (cfg6.grid.coords t)).Idx → Elt F (cfg6.win w).elt :=
  ((cfg6.win w).blk t).view.read (Elt F) (V (Proc.devRef .tc (Pipeline.arrRef spec6 w)))

/-- The proof data of call 1: an operand's buffer at its block, the result's at the block the body computes. -/
def dat6 (c : Dev nD) : Dat τ (Elt F) (HIx 5) ℕ UU ℕ cfg6 c where
  A w := V (Proc.devRef .tc (Pipeline.arrRef spec6 w))
  after w t := match w with
    | ⟨0, _⟩ => blk6 V 0 t
    | ⟨1, _⟩ => blk6 V 1 t
    | ⟨2, _⟩ => blk6 V 2 t
    | ⟨3, _⟩ => blk6 V 3 t
    | ⟨4, _⟩ => blk6 V 4 t
    | ⟨5, _⟩ => mlpBlock (blk6 V 0 t) (blk6 V 1 t) (blk6 V 2 t) (blk6 V 3 t) (blk6 V 4 t)
  Φ _ := idleInv spec6 c
  q _ := fullShare
  owed _ := 0
  recorded _ := lowWaits (F := F) b c

/-- An operand's staging buffer holds its block at every point. -/
theorem before6_0 (c : Dev nD) (t : Fin cfg6.N) (d) : (dat6 b V c).before 0 t d = blk6 V 0 t :=
  (Dat.before_in_eq_fetched _ 0 rfl (fun _ => rfl) (fun _ _ _ => rfl) (fun _ => rfl) t d).trans rfl
theorem before6_1 (c : Dev nD) (t : Fin cfg6.N) (d) : (dat6 b V c).before 1 t d = blk6 V 1 t :=
  (Dat.before_in_eq_fetched _ 1 rfl (fun _ => rfl) (fun _ _ _ => rfl) (fun _ => rfl) t d).trans rfl
theorem before6_2 (c : Dev nD) (t : Fin cfg6.N) (d) : (dat6 b V c).before 2 t d = blk6 V 2 t :=
  (Dat.before_in_eq_fetched _ 2 rfl (fun _ => rfl) (fun _ _ _ => rfl) (fun _ => rfl) t d).trans rfl
theorem before6_3 (c : Dev nD) (t : Fin cfg6.N) (d) : (dat6 b V c).before 3 t d = blk6 V 3 t :=
  (Dat.before_in_eq_fetched _ 3 rfl (fun _ => rfl) (fun _ _ _ => rfl) (fun _ => rfl) t d).trans rfl
theorem before6_4 (c : Dev nD) (t : Fin cfg6.N) (d) : (dat6 b V c).before 4 t d = blk6 V 4 t :=
  (Dat.before_in_eq_fetched _ 4 rfl (fun _ => rfl) (fun _ _ _ => rfl) (fun _ => rfl) t d).trans rfl
/-- What the body leaves, window by window. -/
theorem after6_0 (c : Dev nD) (t : Fin cfg6.N) : (dat6 b V c).after 0 t = blk6 V 0 t := by dsimp only [dat6]
theorem after6_1 (c : Dev nD) (t : Fin cfg6.N) : (dat6 b V c).after 1 t = blk6 V 1 t := by dsimp only [dat6]
theorem after6_2 (c : Dev nD) (t : Fin cfg6.N) : (dat6 b V c).after 2 t = blk6 V 2 t := by dsimp only [dat6]
theorem after6_3 (c : Dev nD) (t : Fin cfg6.N) : (dat6 b V c).after 3 t = blk6 V 3 t := by dsimp only [dat6]
theorem after6_4 (c : Dev nD) (t : Fin cfg6.N) : (dat6 b V c).after 4 t = blk6 V 4 t := by dsimp only [dat6]
theorem after6_5 (c : Dev nD) (t : Fin cfg6.N) : (dat6 b V c).after 5 t = mlpBlock (blk6 V 0 t) (blk6 V 1 t) (blk6 V 2 t) (blk6 V 3 t) (blk6 V 4 t) := by dsimp only [dat6]

/-- The body's obligation at every point. -/
theorem obligation6 (c : Dev nD) : BodyObligation (dat6 b V c) (defs₀ (F := F)) 𝒱₀ none Set.univ := fun t => by
  rw [bigSep_W6, bigSep_W6,
    show defs₀ (F := F) .tc cfg6.body (cfg6.bodyArgs t (cfg6.slots t)) = bodyAt6 t from rfl]
  unfold bodyAt6
  rw [cc6_eq]
  dsimp only
  simp only [before6_0, before6_1, before6_2, before6_3, before6_4]
  rw [show (dat6 b V c).Φ t.succ = (dat6 b V c).Φ t.castSucc from rfl,
    show (dat6 b V c).owesAt none t.succ = (dat6 b V c).owesAt none t.castSucc from rfl,
    after6_0, after6_1, after6_2, after6_3, after6_4, after6_5]
  exact triple_restated (body_around (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4)) (win6_5.stage (cfg6.slots t 5)) (hstage6_5 ((cfg6.slots t 5).cast nbuf6_5))
    c (grid6.coords t) (blk6 V 0 t) (blk6 V 1 t) (blk6 V 2 t) (blk6 V 3 t) (blk6 V 4 t)
    (fun d => (dat6 b V c).before 5 t d) ((dat6 b V c).Φ t.castSucc) ((dat6 b V c).owesAt none t.castSucc)) rfl .rfl fun _ => .rfl

/-! ## Call 2 -/

/-- Window `w`'s block at point `t`, read off the array's contents at the start. -/
def blk7 (w : Fin cfg7.W) (t : Fin cfg7.N) : ((cfg7.win w).xblock (cfg7.grid.coords t)).Idx → Elt F (cfg7.win w).elt :=
  ((cfg7.win w).blk t).view.read (Elt F) (V (Proc.devRef .tc (Pipeline.arrRef spec7 w)))

/-- The proof data of call 2: an operand's buffer at its block, the result's at the block the body computes. -/
def dat7 (c : Dev nD) : Dat τ (Elt F) (HIx 5) ℕ UU ℕ cfg7 c where
  A w := V (Proc.devRef .tc (Pipeline.arrRef spec7 w))
  after w t := match w with
    | ⟨0, _⟩ => blk7 V 0 t
    | ⟨1, _⟩ => blk7 V 1 t
    | ⟨2, _⟩ => blk7 V 2 t
    | ⟨3, _⟩ => blk7 V 3 t
    | ⟨4, _⟩ => blk7 V 4 t
    | ⟨5, _⟩ => mlpBlock (blk7 V 0 t) (blk7 V 1 t) (blk7 V 2 t) (blk7 V 3 t) (blk7 V 4 t)
  Φ _ := idleInv spec7 c
  q _ := fullShare
  owed _ := 0
  recorded _ := lowWaits (F := F) b c

/-- An operand's staging buffer holds its block at every point. -/
theorem before7_0 (c : Dev nD) (t : Fin cfg7.N) (d) : (dat7 b V c).before 0 t d = blk7 V 0 t :=
  (Dat.before_in_eq_fetched _ 0 rfl (fun _ => rfl) (fun _ _ _ => rfl) (fun _ => rfl) t d).trans rfl
theorem before7_1 (c : Dev nD) (t : Fin cfg7.N) (d) : (dat7 b V c).before 1 t d = blk7 V 1 t :=
  (Dat.before_in_eq_fetched _ 1 rfl (fun _ => rfl) (fun _ _ _ => rfl) (fun _ => rfl) t d).trans rfl
theorem before7_2 (c : Dev nD) (t : Fin cfg7.N) (d) : (dat7 b V c).before 2 t d = blk7 V 2 t :=
  (Dat.before_in_eq_fetched _ 2 rfl (fun _ => rfl) (fun _ _ _ => rfl) (fun _ => rfl) t d).trans rfl
theorem before7_3 (c : Dev nD) (t : Fin cfg7.N) (d) : (dat7 b V c).before 3 t d = blk7 V 3 t :=
  (Dat.before_in_eq_fetched _ 3 rfl (fun _ => rfl) (fun _ _ _ => rfl) (fun _ => rfl) t d).trans rfl
theorem before7_4 (c : Dev nD) (t : Fin cfg7.N) (d) : (dat7 b V c).before 4 t d = blk7 V 4 t :=
  (Dat.before_in_eq_fetched _ 4 rfl (fun _ => rfl) (fun _ _ _ => rfl) (fun _ => rfl) t d).trans rfl
/-- What the body leaves, window by window. -/
theorem after7_0 (c : Dev nD) (t : Fin cfg7.N) : (dat7 b V c).after 0 t = blk7 V 0 t := by dsimp only [dat7]
theorem after7_1 (c : Dev nD) (t : Fin cfg7.N) : (dat7 b V c).after 1 t = blk7 V 1 t := by dsimp only [dat7]
theorem after7_2 (c : Dev nD) (t : Fin cfg7.N) : (dat7 b V c).after 2 t = blk7 V 2 t := by dsimp only [dat7]
theorem after7_3 (c : Dev nD) (t : Fin cfg7.N) : (dat7 b V c).after 3 t = blk7 V 3 t := by dsimp only [dat7]
theorem after7_4 (c : Dev nD) (t : Fin cfg7.N) : (dat7 b V c).after 4 t = blk7 V 4 t := by dsimp only [dat7]
theorem after7_5 (c : Dev nD) (t : Fin cfg7.N) : (dat7 b V c).after 5 t = mlpBlock (blk7 V 0 t) (blk7 V 1 t) (blk7 V 2 t) (blk7 V 3 t) (blk7 V 4 t) := by dsimp only [dat7]

/-- The body's obligation at every point. -/
theorem obligation7 (c : Dev nD) : BodyObligation (dat7 b V c) (defs₀ (F := F)) 𝒱₀ none Set.univ := fun t => by
  rw [bigSep_W7, bigSep_W7,
    show defs₀ (F := F) .tc cfg7.body (cfg7.bodyArgs t (cfg7.slots t)) = bodyAt7 t from rfl]
  unfold bodyAt7
  rw [cc7_eq]
  dsimp only
  simp only [before7_0, before7_1, before7_2, before7_3, before7_4]
  rw [show (dat7 b V c).Φ t.succ = (dat7 b V c).Φ t.castSucc from rfl,
    show (dat7 b V c).owesAt none t.succ = (dat7 b V c).owesAt none t.castSucc from rfl,
    after7_0, after7_1, after7_2, after7_3, after7_4, after7_5]
  exact triple_restated (body_around (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5))
    c (grid7.coords t) (blk7 V 0 t) (blk7 V 1 t) (blk7 V 2 t) (blk7 V 3 t) (blk7 V 4 t)
    (fun d => (dat7 b V c).before 5 t d) ((dat7 b V c).Φ t.castSucc) ((dat7 b V c).owesAt none t.castSucc)) rfl .rfl fun _ => .rfl

/-! ## Call 3 -/

/-- Window `w`'s block at point `t`, read off the array's contents at the start. -/
def blk8 (w : Fin cfg8.W) (t : Fin cfg8.N) : ((cfg8.win w).xblock (cfg8.grid.coords t)).Idx → Elt F (cfg8.win w).elt :=
  ((cfg8.win w).blk t).view.read (Elt F) (V (Proc.devRef .tc (Pipeline.arrRef spec8 w)))

/-- The proof data of call 3: an operand's buffer at its block, the result's at the block the body computes. -/
def dat8 (c : Dev nD) : Dat τ (Elt F) (HIx 5) ℕ UU ℕ cfg8 c where
  A w := V (Proc.devRef .tc (Pipeline.arrRef spec8 w))
  after w t := match w with
    | ⟨0, _⟩ => blk8 V 0 t
    | ⟨1, _⟩ => blk8 V 1 t
    | ⟨2, _⟩ => blk8 V 2 t
    | ⟨3, _⟩ => blk8 V 3 t
    | ⟨4, _⟩ => blk8 V 4 t
    | ⟨5, _⟩ => mlpBlock (blk8 V 0 t) (blk8 V 1 t) (blk8 V 2 t) (blk8 V 3 t) (blk8 V 4 t)
  Φ _ := idleInv spec8 c
  q _ := fullShare
  owed _ := 0
  recorded _ := lowWaits (F := F) b c

/-- An operand's staging buffer holds its block at every point. -/
theorem before8_0 (c : Dev nD) (t : Fin cfg8.N) (d) : (dat8 b V c).before 0 t d = blk8 V 0 t :=
  (Dat.before_in_eq_fetched _ 0 rfl (fun _ => rfl) (fun _ _ _ => rfl) (fun _ => rfl) t d).trans rfl
theorem before8_1 (c : Dev nD) (t : Fin cfg8.N) (d) : (dat8 b V c).before 1 t d = blk8 V 1 t :=
  (Dat.before_in_eq_fetched _ 1 rfl (fun _ => rfl) (fun _ _ _ => rfl) (fun _ => rfl) t d).trans rfl
theorem before8_2 (c : Dev nD) (t : Fin cfg8.N) (d) : (dat8 b V c).before 2 t d = blk8 V 2 t :=
  (Dat.before_in_eq_fetched _ 2 rfl (fun _ => rfl) (fun _ _ _ => rfl) (fun _ => rfl) t d).trans rfl
theorem before8_3 (c : Dev nD) (t : Fin cfg8.N) (d) : (dat8 b V c).before 3 t d = blk8 V 3 t :=
  (Dat.before_in_eq_fetched _ 3 rfl (fun _ => rfl) (fun _ _ _ => rfl) (fun _ => rfl) t d).trans rfl
theorem before8_4 (c : Dev nD) (t : Fin cfg8.N) (d) : (dat8 b V c).before 4 t d = blk8 V 4 t :=
  (Dat.before_in_eq_fetched _ 4 rfl (fun _ => rfl) (fun _ _ _ => rfl) (fun _ => rfl) t d).trans rfl
/-- What the body leaves, window by window. -/
theorem after8_0 (c : Dev nD) (t : Fin cfg8.N) : (dat8 b V c).after 0 t = blk8 V 0 t := by dsimp only [dat8]
theorem after8_1 (c : Dev nD) (t : Fin cfg8.N) : (dat8 b V c).after 1 t = blk8 V 1 t := by dsimp only [dat8]
theorem after8_2 (c : Dev nD) (t : Fin cfg8.N) : (dat8 b V c).after 2 t = blk8 V 2 t := by dsimp only [dat8]
theorem after8_3 (c : Dev nD) (t : Fin cfg8.N) : (dat8 b V c).after 3 t = blk8 V 3 t := by dsimp only [dat8]
theorem after8_4 (c : Dev nD) (t : Fin cfg8.N) : (dat8 b V c).after 4 t = blk8 V 4 t := by dsimp only [dat8]
theorem after8_5 (c : Dev nD) (t : Fin cfg8.N) : (dat8 b V c).after 5 t = mlpBlock (blk8 V 0 t) (blk8 V 1 t) (blk8 V 2 t) (blk8 V 3 t) (blk8 V 4 t) := by dsimp only [dat8]

/-- The body's obligation at every point. -/
theorem obligation8 (c : Dev nD) : BodyObligation (dat8 b V c) (defs₀ (F := F)) 𝒱₀ none Set.univ := fun t => by
  rw [bigSep_W8, bigSep_W8,
    show defs₀ (F := F) .tc cfg8.body (cfg8.bodyArgs t (cfg8.slots t)) = bodyAt8 t from rfl]
  unfold bodyAt8
  rw [cc8_eq]
  dsimp only
  simp only [before8_0, before8_1, before8_2, before8_3, before8_4]
  rw [show (dat8 b V c).Φ t.succ = (dat8 b V c).Φ t.castSucc from rfl,
    show (dat8 b V c).owesAt none t.succ = (dat8 b V c).owesAt none t.castSucc from rfl,
    after8_0, after8_1, after8_2, after8_3, after8_4, after8_5]
  exact triple_restated (body_around (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5))
    c (grid8.coords t) (blk8 V 0 t) (blk8 V 1 t) (blk8 V 2 t) (blk8 V 3 t) (blk8 V 4 t)
    (fun d => (dat8 b V c).before 5 t d) ((dat8 b V c).Φ t.castSucc) ((dat8 b V c).owesAt none t.castSucc)) rfl .rfl fun _ => .rfl

/-! ## Call 4 -/

/-- Window `w`'s block at point `t`, read off the array's contents at the start. -/
def blk9 (w : Fin cfg9.W) (t : Fin cfg9.N) : ((cfg9.win w).xblock (cfg9.grid.coords t)).Idx → Elt F (cfg9.win w).elt :=
  ((cfg9.win w).blk t).view.read (Elt F) (V (Proc.devRef .tc (Pipeline.arrRef spec9 w)))

/-- The proof data of call 4: an operand's buffer at its block, the result's at the block the body computes. -/
def dat9 (c : Dev nD) : Dat τ (Elt F) (HIx 5) ℕ UU ℕ cfg9 c where
  A w := V (Proc.devRef .tc (Pipeline.arrRef spec9 w))
  after w t := match w with
    | ⟨0, _⟩ => blk9 V 0 t
    | ⟨1, _⟩ => blk9 V 1 t
    | ⟨2, _⟩ => blk9 V 2 t
    | ⟨3, _⟩ => blk9 V 3 t
    | ⟨4, _⟩ => blk9 V 4 t
    | ⟨5, _⟩ => mlpBlock (blk9 V 0 t) (blk9 V 1 t) (blk9 V 2 t) (blk9 V 3 t) (blk9 V 4 t)
  Φ _ := idleInv spec9 c
  q _ := fullShare
  owed _ := 0
  recorded _ := lowWaits (F := F) b c

/-- An operand's staging buffer holds its block at every point. -/
theorem before9_0 (c : Dev nD) (t : Fin cfg9.N) (d) : (dat9 b V c).before 0 t d = blk9 V 0 t :=
  (Dat.before_in_eq_fetched _ 0 rfl (fun _ => rfl) (fun _ _ _ => rfl) (fun _ => rfl) t d).trans rfl
theorem before9_1 (c : Dev nD) (t : Fin cfg9.N) (d) : (dat9 b V c).before 1 t d = blk9 V 1 t :=
  (Dat.before_in_eq_fetched _ 1 rfl (fun _ => rfl) (fun _ _ _ => rfl) (fun _ => rfl) t d).trans rfl
theorem before9_2 (c : Dev nD) (t : Fin cfg9.N) (d) : (dat9 b V c).before 2 t d = blk9 V 2 t :=
  (Dat.before_in_eq_fetched _ 2 rfl (fun _ => rfl) (fun _ _ _ => rfl) (fun _ => rfl) t d).trans rfl
theorem before9_3 (c : Dev nD) (t : Fin cfg9.N) (d) : (dat9 b V c).before 3 t d = blk9 V 3 t :=
  (Dat.before_in_eq_fetched _ 3 rfl (fun _ => rfl) (fun _ _ _ => rfl) (fun _ => rfl) t d).trans rfl
theorem before9_4 (c : Dev nD) (t : Fin cfg9.N) (d) : (dat9 b V c).before 4 t d = blk9 V 4 t :=
  (Dat.before_in_eq_fetched _ 4 rfl (fun _ => rfl) (fun _ _ _ => rfl) (fun _ => rfl) t d).trans rfl
/-- What the body leaves, window by window. -/
theorem after9_0 (c : Dev nD) (t : Fin cfg9.N) : (dat9 b V c).after 0 t = blk9 V 0 t := by dsimp only [dat9]
theorem after9_1 (c : Dev nD) (t : Fin cfg9.N) : (dat9 b V c).after 1 t = blk9 V 1 t := by dsimp only [dat9]
theorem after9_2 (c : Dev nD) (t : Fin cfg9.N) : (dat9 b V c).after 2 t = blk9 V 2 t := by dsimp only [dat9]
theorem after9_3 (c : Dev nD) (t : Fin cfg9.N) : (dat9 b V c).after 3 t = blk9 V 3 t := by dsimp only [dat9]
theorem after9_4 (c : Dev nD) (t : Fin cfg9.N) : (dat9 b V c).after 4 t = blk9 V 4 t := by dsimp only [dat9]
theorem after9_5 (c : Dev nD) (t : Fin cfg9.N) : (dat9 b V c).after 5 t = mlpBlock (blk9 V 0 t) (blk9 V 1 t) (blk9 V 2 t) (blk9 V 3 t) (blk9 V 4 t) := by dsimp only [dat9]

/-- The body's obligation at every point. -/
theorem obligation9 (c : Dev nD) : BodyObligation (dat9 b V c) (defs₀ (F := F)) 𝒱₀ none Set.univ := fun t => by
  rw [bigSep_W9, bigSep_W9,
    show defs₀ (F := F) .tc cfg9.body (cfg9.bodyArgs t (cfg9.slots t)) = bodyAt9 t from rfl]
  unfold bodyAt9
  rw [cc9_eq]
  dsimp only
  simp only [before9_0, before9_1, before9_2, before9_3, before9_4]
  rw [show (dat9 b V c).Φ t.succ = (dat9 b V c).Φ t.castSucc from rfl,
    show (dat9 b V c).owesAt none t.succ = (dat9 b V c).owesAt none t.castSucc from rfl,
    after9_0, after9_1, after9_2, after9_3, after9_4, after9_5]
  exact triple_restated (body_around (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (win9_3.stage (cfg9.slots t 3)) (hstage9_3 ((cfg9.slots t 3).cast nbuf9_3)) (win9_4.stage (cfg9.slots t 4)) (hstage9_4 ((cfg9.slots t 4).cast nbuf9_4)) (win9_5.stage (cfg9.slots t 5)) (hstage9_5 ((cfg9.slots t 5).cast nbuf9_5))
    c (grid9.coords t) (blk9 V 0 t) (blk9 V 1 t) (blk9 V 2 t) (blk9 V 3 t) (blk9 V 4 t)
    (fun d => (dat9 b V c).before 5 t d) ((dat9 b V c).Φ t.castSucc) ((dat9 b V c).owesAt none t.castSucc)) rfl .rfl fun _ => .rfl

end Cert.Proof.Lookup
-- ==== Proof.Region.lean ====
/-
  One TensorCore call of the host program as a segment: entered with the device's unscoped buffers at some contents, left
  with the call's arrays at what its proof data leaves in them and every other buffer as it was.
-/
module

public import proofs.«01_k».proof.Proof.Data
public import Idealize.ShloMosaic.Lib.Pipeline.FrameTail
public import Idealize.ShloMosaic.Lib.Pipeline.RegionsLoop

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- The five calls' configurations are admissible. -/
abbrev adm : (p : Fin 5) → (pcfgs (F := F) p).Adm := fun p => (cfgs p).toPCfg_adm

/-- Beside the buffers, what a TensorCore carries between its calls: the generator register, and that it owes nothing
    and has recorded no wait above level `b`. -/
def tcRest (b : ℕ) (c : Dev nD) : sProp 𝕄 :=
  iprop((∃ r, prngReg c r) ∗ ∃ W, ⌜(K (F := F)).WBelow (T c) W b⌝ ∗ owes (T c) (0 : CellTallies nD τ sig (HIx 5)) W)

/-- The buffers of device `c` that outlive a call, at contents `W`. -/
abbrev heldAll (c : Dev nD) (W : Valuation τ sig (Elt F)) : sProp 𝕄 :=
  StableHlo.held (T c) (Pipeline.ucRefs τ sig) W

/-- The proof data of the five calls, each at its own contents of the device's buffers. -/
def dats (b : ℕ) (VV : Fin 5 → Dev nD → Valuation τ sig (Elt F)) : (p : Fin 5) → (c : Dev nD) → Dat τ (Elt F) (HIx 5) ℕ UU ℕ (cfgs p) c
  | ⟨0, _⟩ => fun c => dat5 b (VV 0 c) c
  | ⟨1, _⟩ => fun c => dat6 b (VV 1 c) c
  | ⟨2, _⟩ => fun c => dat7 b (VV 2 c) c
  | ⟨3, _⟩ => fun c => dat8 b (VV 3 c) c
  | ⟨4, _⟩ => fun c => dat9 b (VV 4 c) c
  | ⟨_ + 5, h⟩ => absurd h (Nat.not_lt.2 (Nat.le_add_left _ _))

variable (b : ℕ) (VV : Fin 5 → Dev nD → Valuation τ sig (Elt F))

set_option backward.isDefEq.respectTransparency.types false in
/-- Call `p` as a segment. -/
def region (p : Fin 5) (kit : LaunchFacts (nD := nD) (τ := τ) cfgs p)
    (hbody : ∀ c, BodyObligation (dats b VV p c) (defs₀ (F := F)) 𝒱₀ none Set.univ)
    (hA : ∀ c w, (dats b VV p c).A w = VV p c (Proc.devRef .tc (Pipeline.arrRef (cfgs p).spec w)))
    (hΦ : ∀ c t, (dats b VV p c).Φ t = idleInv (cfgs p).spec c)
    (hshare : ∀ c w, (dats b VV p c).share w = fullShare)
    (howed : ∀ c t, (dats b VV p c).owed t = 0)
    (hrec : ∀ c t, (dats b VV p c).recorded t = lowWaits (F := F) b c) :
    RegionSeg (pcfgs (F := F)) adm (dats b VV) none defs₀ 𝒱₀ (K (F := F)).L (K (F := F)).lev p where
  win := (kit.toP (Val := Elt F)).win.to₀
  block_pos := (kit.toP (Val := Elt F)).block_pos
  stage_whole := (kit.toP (Val := Elt F)).stage_whole
  K := PEmpty
  osem := fun k => k.elim
  ho := Pipeline.OwnSemFacts.none _
  hbody := fun c => (hbody c).loose
  hwaits := Pipeline.hwaits_of_owed_zero (pcfgs (F := F)) adm (dats b VV) none _ _ p howed
  pre := fun c => iprop(heldAll c (VV p c) ∗ tcRest b c)
  post := fun c => iprop(heldAll c (Pipeline.afterRegion (dats b VV p c) (VV p c)) ∗ tcRest b c)
  X := fun c => iprop(∃ r, prngReg c r)
  Y := fun c => iprop(∃ r, prngReg c r)
  Z := fun c => Pipeline.unscopedRest (Ix := HIx 5) (Name := ℕ) (U := UU) (Lvl := ℕ) (cfgs p).spec c (fun x => VV p c (Proc.devRef .tc x))
  hentry := fun c => by
    rw [Pipeline.ownSems0_none, show heldAll c (VV p c) = unscopedBufs c (fun x => VV p c (Proc.devRef .tc x))
      from (Pipeline.unscopedBufs_held (Ix := HIx 5) (Name := ℕ) (U := UU) (Lvl := ℕ) c (VV p c)).symm]
    have hsplit := Pipeline.arrays_of_unscopedBufs (p := p) (pcfgs (F := F)) adm (dats b VV) (kit.toP (Val := Elt F)).win
      (kit.toP (Val := Elt F)).arr_whole c (hshare c) (fun x => VV p c (Proc.devRef .tc x)) (fun w => hA c w)
    unfold tcRest
    iintro ⟨⟨Hub, Hp, %W, %hW, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      iexists W; isplitr
      · ipureintro
        intro x hx
        refine Or.inl ?_
        rw [hrec]
        exact hW x hx
      iexact HO
    isplitl [Hp]; · iexact Hp
    iexact Hrest
  hin := fun c => by
    rw [hΦ]; unfold idleInv
    iintro ⟨Hp, -, Hr⟩
    isplitl [Hr] <;> iassumption
  hout := fun c => by
    rw [hΦ, Pipeline.ownSems0_none]; unfold idleInv
    iintro ⟨Hr, Hp⟩
    isplitl [Hp]; · iexact Hp
    isplitr; · iempintro
    iexact Hr
  hexit := fun c => by
    have hjoin := Pipeline.unscopedBufs_of_arrays (p := p) (pcfgs (F := F)) adm (Ix := HIx 5) (Name := ℕ) (U := UU) (Lvl := ℕ)
      (kit.toP (Val := Elt F)).win (kit.toP (Val := Elt F)).arr_whole c (dats b VV) (hshare c)
      (fun x => VV p c (Proc.devRef .tc x)) (fun x => Pipeline.afterRegion (dats b VV p c) (VV p c) (Proc.devRef .tc x))
      ((dats b VV p c).arrAt · (cfgs p).N)
      (fun w => (Pipeline.afterRegion_arr (dats b VV p c) (VV p c) kit.win.arr_inj w).symm)
      (fun x hx => Pipeline.afterRegion_of_not_arr (dats b VV p c) (VV p c)
        fun w h => hx (h ▸ Finset.mem_image.mpr ⟨w, Finset.mem_univ _, rfl⟩))
    rw [show heldAll c (Pipeline.afterRegion (dats b VV p c) (VV p c))
        = unscopedBufs c (fun x => Pipeline.afterRegion (dats b VV p c) (VV p c) (Proc.devRef .tc x))
      from (Pipeline.unscopedBufs_held (Ix := HIx 5) (Name := ℕ) (U := UU) (Lvl := ℕ) c _).symm]
    unfold tcRest
    iintro ⟨Ha, HO, Hp, Hrest⟩
    imodintro
    isplitl [Ha Hrest]
    · iapply hjoin; isplitl [Ha] <;> iassumption
    isplitl [Hp]; · iexact Hp
    unfold Dat.owesAt Pipeline.owesWithin
    rw [howed c (Fin.last _)]
    icases HO with ⟨%W, %hW, HO⟩
    iexists W; isplitr
    · ipureintro
      intro x hx
      rcases hW hx with h | ⟨w, s, h⟩
      · rw [hrec] at h; exact h
      · rw [h]; exact Nat.zero_le _
    iexact HO

end Cert.Proof.Lookup
-- ==== Proof.Tail.lean ====
/-
  The host program after the last SparseCore call: five TensorCore calls with a copy of the result so far between one and
  the next, and the final transposition. From the contents of the device's buffers before the first of them to those at the end.
-/
module

public import proofs.«01_k».proof.Proof.Region

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- Where the pipelines' rounds live. -/
def EP : Emb (URounds (GSem nD τ sig) Unit) (MT nD τ sig (HIx 5) (Elt F) ℕ UU ℕ) :=
  (Emb.inl : Emb (URounds (GSem nD τ sig) Unit) (URounds (GSem nD τ sig) Unit × Counters)).trans embR

instance EP_landsIn : (EP (F := F)).LandsIn (upEmb : UEmb _ 𝕄) := by unfold EP; infer_instance

/-! ## The host's operations between the calls -/

abbrev copyOp0 : HloOp τ sig (Elt F) := StableHlo.unary main_v15 main_v16 id
abbrev copyOp1 : HloOp τ sig (Elt F) := StableHlo.unary main_v16 main_v17 id
abbrev copyOp2 : HloOp τ sig (Elt F) := StableHlo.unary main_v17 main_v18 id
abbrev copyOp3 : HloOp τ sig (Elt F) := StableHlo.unary main_v18 main_v19 id
/-- The result, its axes reversed. -/
abbrev lastOp : HloOp τ sig (Elt F) :=
  StableHlo.unary main_v19 main_v20 ((transpose S1024x200x45 [2, 1, 0] · transposes_S45x200x1024_S1024x200x45_2_1_0) :
    (⟨S45x200x1024, .f32⟩ : BufTy).Contents (Elt F) → (⟨S1024x200x45, .f32⟩ : BufTy).Contents (Elt F))

/-! ## The contents of a device's buffers along the tail -/

variable (b : ℕ) (W : Dev nD → Valuation τ sig (Elt F))

/-- What the five calls find. -/
def at0 (c : Dev nD) : Valuation τ sig (Elt F) := W c
def at1 (c : Dev nD) : Valuation τ sig (Elt F) := StableHlo.after [copyOp0] (Pipeline.afterRegion (dat5 b (at0 W c) c) (at0 W c))
def at2 (c : Dev nD) : Valuation τ sig (Elt F) := StableHlo.after [copyOp1] (Pipeline.afterRegion (dat6 b (at1 b W c) c) (at1 b W c))
def at3 (c : Dev nD) : Valuation τ sig (Elt F) := StableHlo.after [copyOp2] (Pipeline.afterRegion (dat7 b (at2 b W c) c) (at2 b W c))
def at4 (c : Dev nD) : Valuation τ sig (Elt F) := StableHlo.after [copyOp3] (Pipeline.afterRegion (dat8 b (at3 b W c) c) (at3 b W c))
/-- What the program ends with. -/
def atEnd (c : Dev nD) : Valuation τ sig (Elt F) := StableHlo.after [lastOp] (Pipeline.afterRegion (dat9 b (at4 b W c) c) (at4 b W c))

/-- What call `p` finds. -/
def found : Fin 5 → Dev nD → Valuation τ sig (Elt F)
  | ⟨0, _⟩ => at0 W
  | ⟨1, _⟩ => at1 b W
  | ⟨2, _⟩ => at2 b W
  | ⟨3, _⟩ => at3 b W
  | ⟨4, _⟩ => at4 b W
  | ⟨_ + 5, h⟩ => absurd h (Nat.not_lt.2 (Nat.le_add_left _ _))

/-- The segments' proof data. -/
abbrev tailDats : (p : Fin 5) → (c : Dev nD) → Dat τ (Elt F) (HIx 5) ℕ UU ℕ (cfgs p) c := dats b (found b W)

/-- Call 0 as a segment, and the other four. -/
def region0 : RegionSeg (pcfgs (F := F)) adm (tailDats b W) none defs₀ 𝒱₀ (K (F := F)).L (K (F := F)).lev 0 :=
  region b (found b W) 0 launch5 (fun c => obligation5 b (at0 W c) c) (fun _ _ => rfl) (fun _ _ => rfl) (fun _ => Dat.share_full _ fun _ => rfl) (fun _ _ => rfl) (fun _ _ => rfl)
def region1 : RegionSeg (pcfgs (F := F)) adm (tailDats b W) none defs₀ 𝒱₀ (K (F := F)).L (K (F := F)).lev 1 :=
  region b (found b W) 1 launch6 (fun c => obligation6 b (at1 b W c) c) (fun _ _ => rfl) (fun _ _ => rfl) (fun _ => Dat.share_full _ fun _ => rfl) (fun _ _ => rfl) (fun _ _ => rfl)
def region2 : RegionSeg (pcfgs (F := F)) adm (tailDats b W) none defs₀ 𝒱₀ (K (F := F)).L (K (F := F)).lev 2 :=
  region b (found b W) 2 launch7 (fun c => obligation7 b (at2 b W c) c) (fun _ _ => rfl) (fun _ _ => rfl) (fun _ => Dat.share_full _ fun _ => rfl) (fun _ _ => rfl) (fun _ _ => rfl)
def region3 : RegionSeg (pcfgs (F := F)) adm (tailDats b W) none defs₀ 𝒱₀ (K (F := F)).L (K (F := F)).lev 3 :=
  region b (found b W) 3 launch8 (fun c => obligation8 b (at3 b W c) c) (fun _ _ => rfl) (fun _ _ => rfl) (fun _ => Dat.share_full _ fun _ => rfl) (fun _ _ => rfl) (fun _ _ => rfl)
def region4 : RegionSeg (pcfgs (F := F)) adm (tailDats b W) none defs₀ 𝒱₀ (K (F := F)).L (K (F := F)).lev 4 :=
  region b (found b W) 4 launch9 (fun c => obligation9 b (at4 b W c) c) (fun _ _ => rfl) (fun _ _ => rfl) (fun _ => Dat.share_full _ fun _ => rfl) (fun _ _ => rfl) (fun _ _ => rfl)

/-- A host operation between two calls as a segment. -/
def hostSeg (op : HloOp τ sig (Elt F)) (h : op.bufs ⊆ StableHlo.tcRefs τ sig) (hf : op.fresh = ∅) (V : Dev nD → Valuation τ sig (Elt F)) :
    HostSeg (Name := ℕ) (U := UU) (pcfgs (F := F)) defs₀ 𝒱₀ (K (F := F)).L (K (F := F)).lev :=
  HostSeg.ofOps (pcfgs (F := F)) defs₀ 𝒱₀ _ _ (Pipeline.ucRefs τ sig) [op]
    (fun o ho => by rw [List.mem_singleton.mp ho]; exact Pipeline.sub_ucRefs op h)
    (fun o ho => by rw [List.mem_singleton.mp ho]; exact hf) V (tcRest b)

/-- The tail's segments, in order. -/
def tailSegs : List (Seg (pcfgs (F := F)) adm (tailDats b W) none defs₀ 𝒱₀ (K (F := F)).L (K (F := F)).lev) :=
  [.region (region0 b W),
    .host (hostSeg b copyOp0 (StableHlo.unary_bufs_sub ..) rfl fun c => Pipeline.afterRegion (dat5 b (at0 W c) c) (at0 W c)),
    .region (region1 b W),
    .host (hostSeg b copyOp1 (StableHlo.unary_bufs_sub ..) rfl fun c => Pipeline.afterRegion (dat6 b (at1 b W c) c) (at1 b W c)),
    .region (region2 b W),
    .host (hostSeg b copyOp2 (StableHlo.unary_bufs_sub ..) rfl fun c => Pipeline.afterRegion (dat7 b (at2 b W c) c) (at2 b W c)),
    .region (region3 b W),
    .host (hostSeg b copyOp3 (StableHlo.unary_bufs_sub ..) rfl fun c => Pipeline.afterRegion (dat8 b (at3 b W c) c) (at3 b W c)),
    .region (region4 b W),
    .host (hostSeg b lastOp (StableHlo.unary_bufs_sub ..) rfl fun c => Pipeline.afterRegion (dat9 b (at4 b W c) c) (at4 b W c))]

/-- Each segment starts from what the one before leaves. -/
theorem tail_chains : Seg.Chains (fun c => iprop(heldAll c (W c) ∗ tcRest b c)) (tailSegs b W) (fun c => iprop(heldAll c (atEnd b W c) ∗ tcRest b c)) :=
  ⟨fun _ => .rfl, fun _ => .rfl, fun _ => .rfl, fun _ => .rfl, fun _ => .rfl, fun _ => .rfl, fun _ => .rfl, fun _ => .rfl,
    fun _ => .rfl, fun _ => .rfl, fun _ => .rfl⟩

/-- The pipelines' rounds are pairwise apart. -/
theorem pipes_inj : Function.Injective (Pipeline.cellOf (nD := nD) (τ := τ) (Pipeline.pin (pcfgs (F := F)) adm)) :=
  launch5.toP.cellOf_inj adm

/-- The tail run from the buffers' contents `W`: it ends with the contents `atEnd`. -/
theorem tail_wp (d : Dev nD) (Φ : PUnit → sProp 𝕄) :
    iprop(((boundary (T d) ∗ heldAll d (atEnd b W d) ∗ tcRest b d) -∗ Φ ⟨⟩)
        ∗ boundary (T d) ∗ (heldAll d (W d) ∗ tcRest b d) ∗ levAts (K (F := F)).L (K (F := F)).lev
        ∗ Pipeline.ghostOn (pcfgs (F := F)) adm (EP (F := F)) Finset.univ d)
      ⊢ wp frame (wpE ((K (F := F)).defs (D (F := F))) 𝒱 (T d) none) Set.univ
          (SparseCore.liftProg (Seg.run (tailSegs b W))) Φ :=
  (Pipeline.wp_segs (pcfgs (F := F)) adm (tailDats b W) none (pipes_inj) (EP (F := F)) defs₀ 𝒱₀ _ _ d (tailSegs b W) Finset.univ _ _
    (show List.Nodup ([0, 1, 2, 3, 4] : List (Fin 5)) by decide) (fun _ _ => Finset.mem_univ _) (tail_chains b W)).trans
    ((K (F := F)).wp_liftProg (D (F := F)) 𝒱 (T d) Set.univ none _ Φ)

end Cert.Proof.Lookup
-- ==== Proof.Gather.lean ====
/-
  The values a tile's streams move: a row stream lands, at row `k`, the table's row that the list names at `k`.
-/
module

public import proofs.«01_k».proof.Proof.Setup
public import Idealize.ShloMosaic.Lib.ValueIdxCore
public import Idealize.ShloMosaic.Lib.VecWindow

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

/-- Two contents that a view reads alike are one assertion about the view's own elements. -/
theorem pointsTo_congr_read (c : Thread nD τ) {sp : Space} {s : Shape} {e : EltTy} (m : Memref sig c.2.kind sp s e) (q : PosShare TreeShare)
    (f g : Buf (Elt F) (m.view.loc c)) (h : ∀ x, m.view.read (Elt F) f x = m.view.read (Elt F) g x) :
    (m.view.loc c ↦[m.view.set]{q} f : sProp 𝕄) = m.view.loc c ↦[m.view.set]{q} g := by
  refine pointsTo_congr fun j hj => ?_
  obtain ⟨x, -, rfl⟩ := Finset.mem_map.mp hj
  have := h x
  simp only [View.read_apply] at this
  exact (cast_bijective _).injective this

/-- The row stream's payload at an index: the table at the row the list names there, in the same column. -/
theorem gather_value (m : Memref sig .scVector .hbm S1000000x128 .f32) (fx : m.view.ty.Contents (Elt F))
    (l : S128.Idx → Elt F .i32) (hl : ∀ x, (l x).toNat < 1000000) (x : S128x128.Idx) :
    SparseCore.gatherPayload (F := F) gathers_S1000000x128_S128x128
        ((m.slice (Rect.unit (s := S1000000x128) ![0, 0] S1000000x128.size inb_S1000000x128_S1000000x128_0_0) (fun _ => rfl)).view.read (Elt F) fx)
        (SparseCore.rows (F := F) l rfl hl) x
      = m.view.read (Elt F) fx (ix2 ⟨(l (ix1 (x 0))).toNat, hl _⟩ (x 1)) := by
  have hread : ∀ z, (m.slice (Rect.unit (s := S1000000x128) ![0, 0] S1000000x128.size inb_S1000000x128_S1000000x128_0_0) (fun _ => rfl)).view.read (Elt F) fx z
      = m.view.read (Elt F) fx z := by
    intro z
    show m.view.read (Elt F) fx ((Rect.unit (s := S1000000x128) ![0, 0] S1000000x128.size _).emb z) = _
    rw [Rect.emb_unit_full]
  unfold SparseCore.gatherPayload
  rw [hread]
  congr 1
  funext a
  have hrow : ∀ k : Fin 128, S128.rowMajor.symm (k.cast (rfl : 128 = S128.numel)) = ix1 k := by
    intro k
    rw [Equiv.symm_apply_eq]
    exact Fin.ext (Shape.rowMajor_val_one (d := ![128]) (ix1 k)).symm
  match a with
  | ⟨0, _⟩ =>
    refine (Shape.Gathers.idx_axis _ _ _).trans ?_
    refine Fin.ext ?_
    show (l (S128.rowMajor.symm _)).toNat = (l (ix1 (x 0))).toNat
    exact congrArg (fun z => (l z).toNat) (hrow (x 0))
  | ⟨1, h1⟩ => exact Fin.ext (Shape.Gathers.idx_of_ne _ _ _ ⟨1, h1⟩ (show (1 : ℕ) ≠ 0 by omega))

/-- A stretch of the list the tile holds is that stretch of what the list reads. -/
theorem list_read (m : Memref sig .scVector .vmem S1280 .i32) (g : m.view.ty.Contents (Elt F)) (o : Fin 1 → ℕ)
    (h : ∀ a, o a + S128.size a ≤ S1280.size a) (x : S128.Idx) :
    (m.slice (Rect.unit (s := S1280) o S128.size h) (fun _ => rfl)).view.read (Elt F) g x
      = m.view.read (Elt F) g (ix1 ⟨o 0 + (x 0).val, by have := h 0; have hx := (x 0).isLt; simp [Shape.size] at this hx ⊢; omega⟩) := by
  show m.view.read (Elt F) g ((Rect.unit (s := S1280) o S128.size h).emb x) = _
  congr 1
  funext a
  match a with
  | ⟨0, _⟩ => exact Fin.ext (by show o 0 + 1 * (x 0).val = o 0 + (x 0).val; omega)

/-- A row stream over the stretch of the tile's list that starts at `o 0` lands, at row `k`, the table's row named at
    position `o 0 + k` of the list. -/
theorem stream_value (m3 : Memref sig .scVector .hbm S1000000x128 .f32) (fx : m3.view.ty.Contents (Elt F))
    (m5 : Memref sig .scVector .vmem S1280 .i32) (g : m5.view.ty.Contents (Elt F)) (l : S1280.Idx → Elt F .i32) (hl : ∀ z, (l z).toNat < 1000000)
    (hg : ∀ z, m5.view.read (Elt F) g z = l z) (o : Fin 1 → ℕ) (h : ∀ a, o a + S128.size a ≤ S1280.size a)
    (hin : ∀ x, ((m5.slice (Rect.unit (s := S1280) o S128.size h) (fun _ => rfl)).view.read (Elt F) g x).toNat < 1000000)
    (x : S128x128.Idx) (k : Fin 1280) (hk : k.val = o 0 + (x 0).val) :
    SparseCore.gatherPayload (F := F) gathers_S1000000x128_S128x128
        ((m3.slice (Rect.unit (s := S1000000x128) ![0, 0] S1000000x128.size inb_S1000000x128_S1000000x128_0_0) (fun _ => rfl)).view.read (Elt F) fx)
        (SparseCore.rows (F := F) ((m5.slice (Rect.unit (s := S1280) o S128.size h) (fun _ => rfl)).view.read (Elt F) g) rfl hin) x
      = m3.view.read (Elt F) fx (ix2 ⟨(l (ix1 k)).toNat, hl _⟩ (x 1)) := by
  rw [gather_value]
  congr 3
  rw [list_read, hg]
  congr 3
  exact Fin.ext hk.symm

/-- A view's whole rectangle written last is what the view reads. -/
theorem read_writes_whole {sg : RefSig} {κ : Kind} {sp : Space} {s : Shape} {e : EltTy} {Val : EltTy → Type} (v : View sg κ sp s e) (f : v.ty.Contents Val)
    (w : s.Idx → Val e) (L : List (View.Piece Val s e)) (x : s.Idx) :
    v.read Val (v.writes Val f (⟨Rect.whole s, w⟩ :: L)) x = w x := by
  have := View.read_writes_cons_emb (v := v) (f := f) (Rect.whole s) w L x
  rwa [show (Rect.whole s).emb x = x from funext fun a => Fin.ext (by show 0 + 1 * (x a).val = _; omega)] at this

/-- A block written out after its stream: read back, it is what `G` reads, when `G` holds the named rows there. -/
theorem block_value (m3 : Memref sig .scVector .hbm S1000000x128 .f32) (fx : m3.view.ty.Contents (Elt F))
    (m5 : Memref sig .scVector .vmem S1280 .i32) (g : m5.view.ty.Contents (Elt F)) (l : S1280.Idx → Elt F .i32) (hl : ∀ z, (l z).toNat < 1000000)
    (hg : ∀ z, m5.view.read (Elt F) g z = l z)
    (m : Memref sig .scVector .vmem S128x128 .f32) (f : m.view.ty.Contents (Elt F)) (L : List (View.Piece (Elt F) S128x128 .f32))
    (mo : Memref sig .scVector .hbm S128x128 .f32) (fo G : mo.view.ty.Contents (Elt F)) (o : Fin 1 → ℕ) (h : ∀ a, o a + S128.size a ≤ S1280.size a)
    (hin : ∀ x, ((m5.slice (Rect.unit (s := S1280) o S128.size h) (fun _ => rfl)).view.read (Elt F) g x).toNat < 1000000)
    (hG : ∀ (x : S128x128.Idx) (k : Fin 1280), k.val = o 0 + (x 0).val →
      mo.view.read (Elt F) G x = m3.view.read (Elt F) fx (ix2 ⟨(l (ix1 k)).toNat, hl _⟩ (x 1)))
    (x : S128x128.Idx) :
    mo.view.read (Elt F) (mo.view.writes (Elt F) fo [⟨Rect.whole S128x128, ReadAs.same.apply (m.view.read (Elt F)
        (m.view.writes (Elt F) f (⟨Rect.whole S128x128, SparseCore.gatherPayload (F := F) gathers_S1000000x128_S128x128
          ((m3.slice (Rect.unit (s := S1000000x128) ![0, 0] S1000000x128.size inb_S1000000x128_S1000000x128_0_0) (fun _ => rfl)).view.read (Elt F) fx)
          (SparseCore.rows (F := F) ((m5.slice (Rect.unit (s := S1280) o S128.size h) (fun _ => rfl)).view.read (Elt F) g) rfl hin)⟩ :: L)))⟩]) x
      = mo.view.read (Elt F) G x := by
  rw [read_writes_whole]
  show m.view.read (Elt F) _ x = _
  have hk : o 0 + (x 0).val < 1280 := by
    have h0 := h 0; have hx := (x 0).isLt
    change o 0 + 128 ≤ 1280 at h0; change (x 0).val < 128 at hx; omega
  rw [read_writes_whole, stream_value m3 fx m5 g l hl hg o h hin x ⟨_, hk⟩ rfl, hG x ⟨_, hk⟩ rfl]

end Cert.Proof.Lookup
-- ==== Proof.Tile.lean ====
/-
  What one SparseCore tile's task does, stated for the kernel function over any whole buffers and any semaphores, so that
  the five calls share it.
-/
module

public import proofs.«01_k».proof.Proof.Gather

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (d : Dev nD) (i : grid0.Coords)

abbrev cV : Fin τ.nSC := (i 0).castLE hcore0
abbrev jV : Fin τ.nSub := (i 1).castLE hsub0

section Body

variable (arg2 : Memref sig .scVector .hbm S40960 .i32) (harg2 : arg2.IsWhole) (arg3 : Memref sig .scVector .hbm S1000000x128 .f32) (harg3 : arg3.IsWhole)
  (arg4 : Memref sig .scVector .hbm S40960x128 .f32) (harg4 : arg4.IsWhole) (arg5 : Memref sig .scVector .vmem S1280 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S128x128 .f32) (harg8 : arg8.IsWhole) (arg9 : Memref sig .scVector .vmem S128x128 .f32) (harg9 : arg9.IsWhole)
  (arg10 : Memref sig .scVector .vmem S128x128 .f32) (harg10 : arg10.IsWhole) (arg11 : Memref sig .scVector .vmem S128x128 .f32) (harg11 : arg11.IsWhole)
  (arg12 arg13 arg14 arg15 arg16 arg17 arg18 arg19 arg20 arg21 arg22 arg23 arg24 : DmaSems sig S_)

/-- The tile's stretch of the list of row numbers, as the kernel slices it. -/
abbrev idxSlice : Memref sig .scVector .hbm S1280 .i32 :=
  arg2.slice (Rect.unit (s := S40960) (k0_off1 i) S1280.size (k0_off1_inb i)) (fun _ => rfl)
/-- The `j`-th block of 128 rows the tile writes, as the kernel slices it. -/
abbrev outSlice (j : Fin 10) : Memref sig .scVector .hbm S128x128 .f32 :=
  arg4.slice (Rect.unit (s := S40960x128) (k0_off2 i (BitVec.ofNat 32 (128 * j.val))) S128x128.size (k0_off2_inb i j)) (fun _ => rfl)

set_option maxRecDepth 65536 in
set_option maxHeartbeats 4000000 in
theorem tile_body (q0 q1 q2 q3 : PosShare TreeShare) (fi : Buf (Elt F) (arg2.view.loc (V d (cV i) (jV i))))
    (fx : Buf (Elt F) (arg3.view.loc (V d (cV i) (jV i)))) (fo : Buf (Elt F) (arg4.view.loc (V d (cV i) (jV i))))
    (f5 : Buf (Elt F) (arg5.view.loc (V d (cV i) (jV i)))) (f6 : Buf (Elt F) (arg6.view.loc (V d (cV i) (jV i))))
    (f7 : Buf (Elt F) (arg7.view.loc (V d (cV i) (jV i)))) (f8 : Buf (Elt F) (arg8.view.loc (V d (cV i) (jV i))))
    (f9 : Buf (Elt F) (arg9.view.loc (V d (cV i) (jV i)))) (f10 : Buf (Elt F) (arg10.view.loc (V d (cV i) (jV i))))
    (f11 : Buf (Elt F) (arg11.view.loc (V d (cV i) (jV i))))
    (G : Buf (Elt F) (arg4.view.loc (V d (cV i) (jV i))))
    (hl : ∀ z, ((idxSlice i arg2).view.read (Elt F) fi z).toNat < 1000000)
    (hG : ∀ (j : Fin 10) (x : S128x128.Idx) (k : Fin 1280), k.val = 128 * j.val + (x 0).val →
      (outSlice i arg4 j).view.read (Elt F) G x
        = arg3.view.read (Elt F) fx (ix2 ⟨((idxSlice i arg2).view.read (Elt F) fi (ix1 k)).toNat, hl _⟩ (x 1)))
    (O : CellTallies nD τ sig (HIx 5)) (W : Waits sig (HIx 5)) (hO : ∀ g, O g none = 0) :
    iprop(levAts (K (F := F)).L (K (F := F)).lev
        ∗ ((idxSlice i arg2).view.loc (V d (cV i) (jV i)) ↦[(idxSlice i arg2).view.set]{fullShare} fi)
        ∗ ((arg3.view.loc (V d (cV i) (jV i)) ↦{q0} fx) ∗ (arg3.view.loc (V d (cV i) (jV i)) ↦{q1} fx)
            ∗ (arg3.view.loc (V d (cV i) (jV i)) ↦{q2} fx) ∗ (arg3.view.loc (V d (cV i) (jV i)) ↦{q3} fx))
        ∗ (((outSlice i arg4 0).view.loc (V d (cV i) (jV i)) ↦[(outSlice i arg4 0).view.set]{fullShare} fo)
          ∗ ((outSlice i arg4 1).view.loc (V d (cV i) (jV i)) ↦[(outSlice i arg4 1).view.set]{fullShare} fo)
          ∗ ((outSlice i arg4 2).view.loc (V d (cV i) (jV i)) ↦[(outSlice i arg4 2).view.set]{fullShare} fo)
          ∗ ((outSlice i arg4 3).view.loc (V d (cV i) (jV i)) ↦[(outSlice i arg4 3).view.set]{fullShare} fo)
          ∗ ((outSlice i arg4 4).view.loc (V d (cV i) (jV i)) ↦[(outSlice i arg4 4).view.set]{fullShare} fo)
          ∗ ((outSlice i arg4 5).view.loc (V d (cV i) (jV i)) ↦[(outSlice i arg4 5).view.set]{fullShare} fo)
          ∗ ((outSlice i arg4 6).view.loc (V d (cV i) (jV i)) ↦[(outSlice i arg4 6).view.set]{fullShare} fo)
          ∗ ((outSlice i arg4 7).view.loc (V d (cV i) (jV i)) ↦[(outSlice i arg4 7).view.set]{fullShare} fo)
          ∗ ((outSlice i arg4 8).view.loc (V d (cV i) (jV i)) ↦[(outSlice i arg4 8).view.set]{fullShare} fo)
          ∗ ((outSlice i arg4 9).view.loc (V d (cV i) (jV i)) ↦[(outSlice i arg4 9).view.set]{fullShare} fo))
        ∗ ((arg5.view.loc (V d (cV i) (jV i)) ↦{fullShare} f5) ∗ (arg6.view.loc (V d (cV i) (jV i)) ↦{fullShare} f6)
          ∗ (arg7.view.loc (V d (cV i) (jV i)) ↦{fullShare} f7) ∗ (arg8.view.loc (V d (cV i) (jV i)) ↦{fullShare} f8)
          ∗ (arg9.view.loc (V d (cV i) (jV i)) ↦{fullShare} f9) ∗ (arg10.view.loc (V d (cV i) (jV i)) ↦{fullShare} f10)
          ∗ (arg11.view.loc (V d (cV i) (jV i)) ↦{fullShare} f11))
        ∗ (semVal (V d (cV i) (jV i), .dma arg12.sem) 0 ∗ semVal (V d (cV i) (jV i), .dma arg13.sem) 0 ∗ semVal (V d (cV i) (jV i), .dma arg14.sem) 0
          ∗ semVal (V d (cV i) (jV i), .dma arg15.sem) 0 ∗ semVal (V d (cV i) (jV i), .dma arg16.sem) 0 ∗ semVal (V d (cV i) (jV i), .dma arg17.sem) 0
          ∗ semVal (V d (cV i) (jV i), .dma arg18.sem) 0 ∗ semVal (V d (cV i) (jV i), .dma arg19.sem) 0 ∗ semVal (V d (cV i) (jV i), .dma arg20.sem) 0
          ∗ semVal (V d (cV i) (jV i), .dma arg21.sem) 0 ∗ semVal (V d (cV i) (jV i), .dma arg22.sem) 0 ∗ semVal (V d (cV i) (jV i), .dma arg23.sem) 0
          ∗ semVal (V d (cV i) (jV i), .dma arg24.sem) 0)
        ∗ owes (V d (cV i) (jV i)) O W)
      ⊢ (wp frame (wpE (defs₀ (F := F)) 𝒱₀ (V d (cV i) (jV i)) none) Set.univ
          (cc0__sc_gather_kernel i arg2 harg2 arg3 harg3 arg4 harg4 arg5 harg5 arg6 harg6 arg7 harg7 arg8 harg8 arg9 harg9 arg10 harg10 arg11 harg11
            arg12 arg13 arg14 arg15 arg16 arg17 arg18 arg19 arg20 arg21 arg22 arg23 arg24)
          fun _ => iprop(((idxSlice i arg2).view.loc (V d (cV i) (jV i)) ↦[(idxSlice i arg2).view.set]{fullShare} fi)
            ∗ ((arg3.view.loc (V d (cV i) (jV i)) ↦{q0} fx) ∗ (arg3.view.loc (V d (cV i) (jV i)) ↦{q1} fx)
                ∗ (arg3.view.loc (V d (cV i) (jV i)) ↦{q2} fx) ∗ (arg3.view.loc (V d (cV i) (jV i)) ↦{q3} fx))
            ∗ (((outSlice i arg4 0).view.loc (V d (cV i) (jV i)) ↦[(outSlice i arg4 0).view.set]{fullShare} G)
          ∗ ((outSlice i arg4 1).view.loc (V d (cV i) (jV i)) ↦[(outSlice i arg4 1).view.set]{fullShare} G)
          ∗ ((outSlice i arg4 2).view.loc (V d (cV i) (jV i)) ↦[(outSlice i arg4 2).view.set]{fullShare} G)
          ∗ ((outSlice i arg4 3).view.loc (V d (cV i) (jV i)) ↦[(outSlice i arg4 3).view.set]{fullShare} G)
          ∗ ((outSlice i arg4 4).view.loc (V d (cV i) (jV i)) ↦[(outSlice i arg4 4).view.set]{fullShare} G)
          ∗ ((outSlice i arg4 5).view.loc (V d (cV i) (jV i)) ↦[(outSlice i arg4 5).view.set]{fullShare} G)
          ∗ ((outSlice i arg4 6).view.loc (V d (cV i) (jV i)) ↦[(outSlice i arg4 6).view.set]{fullShare} G)
          ∗ ((outSlice i arg4 7).view.loc (V d (cV i) (jV i)) ↦[(outSlice i arg4 7).view.set]{fullShare} G)
          ∗ ((outSlice i arg4 8).view.loc (V d (cV i) (jV i)) ↦[(outSlice i arg4 8).view.set]{fullShare} G)
          ∗ ((outSlice i arg4 9).view.loc (V d (cV i) (jV i)) ↦[(outSlice i arg4 9).view.set]{fullShare} G))
            ∗ ((∃ f : Buf (Elt F) (arg5.view.loc (V d (cV i) (jV i))), arg5.view.loc (V d (cV i) (jV i)) ↦{fullShare} f) ∗ (∃ f : Buf (Elt F) (arg6.view.loc (V d (cV i) (jV i))), arg6.view.loc (V d (cV i) (jV i)) ↦{fullShare} f) ∗ (∃ f : Buf (Elt F) (arg7.view.loc (V d (cV i) (jV i))), arg7.view.loc (V d (cV i) (jV i)) ↦{fullShare} f) ∗ (∃ f : Buf (Elt F) (arg8.view.loc (V d (cV i) (jV i))), arg8.view.loc (V d (cV i) (jV i)) ↦{fullShare} f) ∗ (∃ f : Buf (Elt F) (arg9.view.loc (V d (cV i) (jV i))), arg9.view.loc (V d (cV i) (jV i)) ↦{fullShare} f) ∗ (∃ f : Buf (Elt F) (arg10.view.loc (V d (cV i) (jV i))), arg10.view.loc (V d (cV i) (jV i)) ↦{fullShare} f) ∗ (∃ f : Buf (Elt F) (arg11.view.loc (V d (cV i) (jV i))), arg11.view.loc (V d (cV i) (jV i)) ↦{fullShare} f))
            ∗ (semVal (V d (cV i) (jV i), .dma arg12.sem) 0 ∗ semVal (V d (cV i) (jV i), .dma arg13.sem) 0 ∗ semVal (V d (cV i) (jV i), .dma arg14.sem) 0 ∗ semVal (V d (cV i) (jV i), .dma arg15.sem) 0 ∗ semVal (V d (cV i) (jV i), .dma arg16.sem) 0 ∗ semVal (V d (cV i) (jV i), .dma arg17.sem) 0 ∗ semVal (V d (cV i) (jV i), .dma arg18.sem) 0 ∗ semVal (V d (cV i) (jV i), .dma arg19.sem) 0 ∗ semVal (V d (cV i) (jV i), .dma arg20.sem) 0 ∗ semVal (V d (cV i) (jV i), .dma arg21.sem) 0 ∗ semVal (V d (cV i) (jV i), .dma arg22.sem) 0 ∗ semVal (V d (cV i) (jV i), .dma arg23.sem) 0 ∗ semVal (V d (cV i) (jV i), .dma arg24.sem) 0)
            ∗ ∃ W', ⌜∀ p ∈ W', p ∈ W ∨ p.2 = none⌝ ∗ owes (V d (cV i) (jV i)) O W') : sProp 𝕄) := by
  rw [cc0__sc_gather_kernel_eq_skeleton]; unfold cc0__sc_gather_kernel_skel
  rw [k0_part1_eq_skeleton, k0_part2_eq_skeleton, k0_part3_eq_skeleton, k0_part4_eq_skeleton]
  unfold k0_part1_skel k0_part2_skel k0_part3_skel k0_part4_skel
  iintro ⟨#Hlv, Hi, ⟨Hx0, Hx1, Hx2, Hx3⟩, ⟨Ho0, Ho1, Ho2, Ho3, Ho4, Ho5, Ho6, Ho7, Ho8, Ho9⟩, ⟨Hb5, Hb6, Hb7, Hb8, Hb9, Hb10, Hb11⟩, ⟨Hs12, Hs13, Hs14, Hs15, Hs16, Hs17, Hs18, Hs19, Hs20, Hs21, Hs22, Hs23, Hs24⟩, HO⟩
  ihave Hmw := (show levAts (K (F := F)).L (K (F := F)).lev ⊢ Transfers.MayWaits (V d (cV i) (jV i)) (default : HIx 5) O from
    (K (F := F)).mayWaits_none (thr := V d (cV i) (jV i)) hO) $$ Hlv
  sl_exec
  obtain ⟨g, hg⟩ : ∃ g, g = View.write (Elt F) arg5.view f5 (tile_body.sl.dma0 d i arg2 fi) Finset.univ := ⟨_, rfl⟩
  rw [← hg]
  have hread : ∀ z, arg5.view.read (Elt F) g z = (idxSlice i arg2).view.read (Elt F) fi z := by
    intro z; rw [hg, View.read_write_univ]; rfl
  have hin : ∀ (o : Fin 1 → ℕ) (h : ∀ a, o a + S128.size a ≤ S1280.size a) (x : S128.Idx),
      ((arg5.slice (Rect.unit (s := S1280) o S128.size h) (fun _ => rfl)).view.read (Elt F) g x).toNat < 1000000 := by
    intro o h x; rw [list_read, hread]; exact hl _
  sl_exec
  sl_step
  ihave Ho0' := (Entails.of_eq (pointsTo_congr_read (V d (cV i) (jV i)) (outSlice i arg4 0) fullShare
    ((outSlice i arg4 0).view.writes (Elt F) fo [⟨Rect.whole S128x128, tile_body.sl.dma0_1 d i arg3 arg5 arg6 fx f6 g hin⟩]) G
    (block_value arg3 fx arg5 g _ hl hread arg6 _ _ (outSlice i arg4 0) fo G ![0] inb_S1280_S128_0 (hin _ _) (fun x k hk => hG 0 x k hk)))) $$ Ho0
  ihave Ho1' := (Entails.of_eq (pointsTo_congr_read (V d (cV i) (jV i)) (outSlice i arg4 1) fullShare
    ((outSlice i arg4 1).view.writes (Elt F) fo [⟨Rect.whole S128x128, tile_body.sl.dma0_2 d i arg3 arg5 arg7 fx f7 g hin⟩]) G
    (block_value arg3 fx arg5 g _ hl hread arg7 _ _ (outSlice i arg4 1) fo G ![128] inb_S1280_S128_128 (hin _ _) (fun x k hk => hG 1 x k hk)))) $$ Ho1
  ihave Ho2' := (Entails.of_eq (pointsTo_congr_read (V d (cV i) (jV i)) (outSlice i arg4 2) fullShare
    ((outSlice i arg4 2).view.writes (Elt F) fo [⟨Rect.whole S128x128, tile_body.sl.dma0_3 d i arg3 arg5 arg8 fx f8 g hin⟩]) G
    (block_value arg3 fx arg5 g _ hl hread arg8 _ _ (outSlice i arg4 2) fo G ![256] inb_S1280_S128_256 (hin _ _) (fun x k hk => hG 2 x k hk)))) $$ Ho2
  ihave Ho3' := (Entails.of_eq (pointsTo_congr_read (V d (cV i) (jV i)) (outSlice i arg4 3) fullShare
    ((outSlice i arg4 3).view.writes (Elt F) fo [⟨Rect.whole S128x128, tile_body.sl.dma0_4 d i arg3 arg5 arg9 fx f9 g hin⟩]) G
    (block_value arg3 fx arg5 g _ hl hread arg9 _ _ (outSlice i arg4 3) fo G ![384] inb_S1280_S128_384 (hin _ _) (fun x k hk => hG 3 x k hk)))) $$ Ho3
  ihave Ho4' := (Entails.of_eq (pointsTo_congr_read (V d (cV i) (jV i)) (outSlice i arg4 4) fullShare
    ((outSlice i arg4 4).view.writes (Elt F) fo [⟨Rect.whole S128x128, tile_body.sl.dma0_5 d i arg3 arg5 arg10 fx f10 g hin⟩]) G
    (block_value arg3 fx arg5 g _ hl hread arg10 _ _ (outSlice i arg4 4) fo G ![512] inb_S1280_S128_512 (hin _ _) (fun x k hk => hG 4 x k hk)))) $$ Ho4
  ihave Ho5' := (Entails.of_eq (pointsTo_congr_read (V d (cV i) (jV i)) (outSlice i arg4 5) fullShare
    ((outSlice i arg4 5).view.writes (Elt F) fo [⟨Rect.whole S128x128, tile_body.sl.dma0_6 d i arg3 arg5 arg11 fx f11 g hin⟩]) G
    (block_value arg3 fx arg5 g _ hl hread arg11 _ _ (outSlice i arg4 5) fo G ![640] inb_S1280_S128_640 (hin _ _) (fun x k hk => hG 5 x k hk)))) $$ Ho5
  ihave Ho6' := (Entails.of_eq (pointsTo_congr_read (V d (cV i) (jV i)) (outSlice i arg4 6) fullShare
    ((outSlice i arg4 6).view.writes (Elt F) fo [⟨Rect.whole S128x128, tile_body.sl.dma0_7 d i arg3 arg5 arg6 fx f6 g hin⟩]) G
    (block_value arg3 fx arg5 g _ hl hread arg6 _ _ (outSlice i arg4 6) fo G ![768] inb_S1280_S128_768 (hin _ _) (fun x k hk => hG 6 x k hk)))) $$ Ho6
  ihave Ho7' := (Entails.of_eq (pointsTo_congr_read (V d (cV i) (jV i)) (outSlice i arg4 7) fullShare
    ((outSlice i arg4 7).view.writes (Elt F) fo [⟨Rect.whole S128x128, tile_body.sl.dma0_8 d i arg3 arg5 arg7 fx f7 g hin⟩]) G
    (block_value arg3 fx arg5 g _ hl hread arg7 _ _ (outSlice i arg4 7) fo G ![896] inb_S1280_S128_896 (hin _ _) (fun x k hk => hG 7 x k hk)))) $$ Ho7
  ihave Ho8' := (Entails.of_eq (pointsTo_congr_read (V d (cV i) (jV i)) (outSlice i arg4 8) fullShare
    ((outSlice i arg4 8).view.writes (Elt F) fo [⟨Rect.whole S128x128, tile_body.sl.dma0_9 d i arg3 arg5 arg8 fx f8 g hin⟩]) G
    (block_value arg3 fx arg5 g _ hl hread arg8 _ _ (outSlice i arg4 8) fo G ![1024] inb_S1280_S128_1024 (hin _ _) (fun x k hk => hG 8 x k hk)))) $$ Ho8
  ihave Ho9' := (Entails.of_eq (pointsTo_congr_read (V d (cV i) (jV i)) (outSlice i arg4 9) fullShare
    ((outSlice i arg4 9).view.writes (Elt F) fo [⟨Rect.whole S128x128, tile_body.sl.dma0_10 d i arg3 arg5 arg9 fx f9 g hin⟩]) G
    (block_value arg3 fx arg5 g _ hl hread arg9 _ _ (outSlice i arg4 9) fo G ![1152] inb_S1280_S128_1152 (hin _ _) (fun x k hk => hG 9 x k hk)))) $$ Ho9
  isplitl [Hi]; · iexact Hi
  isplitl [Hx0 Hx1 Hx2 Hx3]
  · isplitl [Hx0]; · iexact Hx0
    isplitl [Hx1]; · iexact Hx1
    isplitl [Hx2] <;> iassumption
  isplitl [Ho0' Ho1' Ho2' Ho3' Ho4' Ho5' Ho6' Ho7' Ho8' Ho9']
  · isplitl [Ho0']; · iexact Ho0'
    isplitl [Ho1']; · iexact Ho1'
    isplitl [Ho2']; · iexact Ho2'
    isplitl [Ho3']; · iexact Ho3'
    isplitl [Ho4']; · iexact Ho4'
    isplitl [Ho5']; · iexact Ho5'
    isplitl [Ho6']; · iexact Ho6'
    isplitl [Ho7']; · iexact Ho7'
    isplitl [Ho8']; · iexact Ho8'
    iexact Ho9'
  isplitl [Hb5 Hb6 Hb7 Hb8 Hb9 Hb10 Hb11]
  · isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    isplitl [Hb10]; · iexists _; iexact Hb10
    iexists _; iexact Hb11
  isplitl [Hs12 Hs13 Hs14 Hs15 Hs16 Hs17 Hs18 Hs19 Hs20 Hs21 Hs22 Hs23 Hs24]
  · isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    iexact Hs24
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | rfl | rfl | rfl | rfl | rfl | hp <;> first | exact .inr rfl | exact .inl hp

end Body

end Cert.Proof.Lookup
-- ==== Proof.Same.lean ====
/-
  The five SparseCore calls run one text: the later four kernel functions are the first.
-/
module

public import proofs.«01_k».proof.Proof.Setup

@[expose] public section

noncomputable section

namespace Cert.Proof.Lookup

open Cert.KernelIdeal Cert.KernelIdeal.Gen
open Idealize.ShloMosaic

variable {F : FTy → Type} [FloatOps F]

section

variable (i : grid0.Coords)
  (arg2 : Memref sig .scVector .hbm S40960 .i32) (harg2 : arg2.IsWhole) (arg3 : Memref sig .scVector .hbm S1000000x128 .f32) (harg3 : arg3.IsWhole)
  (arg4 : Memref sig .scVector .hbm S40960x128 .f32) (harg4 : arg4.IsWhole) (arg5 : Memref sig .scVector .vmem S1280 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S128x128 .f32) (harg8 : arg8.IsWhole) (arg9 : Memref sig .scVector .vmem S128x128 .f32) (harg9 : arg9.IsWhole)
  (arg10 : Memref sig .scVector .vmem S128x128 .f32) (harg10 : arg10.IsWhole) (arg11 : Memref sig .scVector .vmem S128x128 .f32) (harg11 : arg11.IsWhole)
  (arg12 arg13 arg14 arg15 arg16 arg17 arg18 arg19 arg20 arg21 arg22 arg23 arg24 : DmaSems sig S_)

set_option maxRecDepth 65536 in
theorem cc1_eq : cc1__sc_gather_kernel (F := F) i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24
    = cc0__sc_gather_kernel i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 := rfl

set_option maxRecDepth 65536 in
theorem cc2_eq : cc2__sc_gather_kernel (F := F) i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24
    = cc0__sc_gather_kernel i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 := rfl

set_option maxRecDepth 65536 in
theorem cc3_eq : cc3__sc_gather_kernel (F := F) i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24
    = cc0__sc_gather_kernel i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 := rfl

set_option maxRecDepth 65536 in
theorem cc4_eq : cc4__sc_gather_kernel (F := F) i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24
    = cc0__sc_gather_kernel i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 := rfl

end

end Cert.Proof.Lookup
-- ==== Proof.Task.lean ====
/-
  A tile's task as a launch hands it over: its stretch of the list, its share of the table and its ten blocks of rows come
  with the call, its scratch and semaphores out of the subcore's own storage, and all go back, the blocks holding the named
  rows.
-/
module

public import proofs.«01_k».proof.Proof.Tile
public import proofs.«01_k».proof.Proof.Same

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- A family over a short index type, member by member. -/
theorem sep4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem sep7 {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem sep13 {M : Type} [URA M] (Φ : Fin 13 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- Members of a family named one-to-one, out of all of it. -/
theorem bigSep_named {M : Type} [URA M] {I : Type} [DecidableEq I] {n : ℕ} (S : Finset I) (e : Fin n → I) (he : Function.Injective e)
    (hm : ∀ k, e k ∈ S) (Φ : I → sProp M) :
    bigSep S Φ = iprop((bigSep Finset.univ fun k => Φ (e k)) ∗ bigSep (S \ Finset.univ.image e) Φ) := by
  rw [SparseCore.bigSep_sdiff_split' (t := Finset.univ.image e) fun x hx => by obtain ⟨k, -, rfl⟩ := Finset.mem_image.mp hx; exact hm k,
    SparseCore.bigSep_image_of_injOn he.injOn]

omit [FloatOps F] in
/-- Seven of a subcore's own buffers, out of all of them. -/
theorem ownBufs_peel (d : Dev nD) (c : Fin τ.nSC) (s : Fin τ.nSub) (r : Fin 7 → Ref sig .scVector) (hr : Function.Injective r)
    (ho : ∀ k, ((Proc.scVector c s).devRef (r k)).owner = .proc (.scVector c s)) :
    ∃ R : sProp 𝕄, (SparseCore.Cfg.ownBufs (V d c s) : sProp 𝕄)
      = iprop((bigSep Finset.univ fun k => iprop(∃ f, (V d c s).loc (r k) ↦{fullShare} f)) ∗ R) := by
  classical
  unfold SparseCore.Cfg.ownBufs
  exact ⟨_, bigSep_named _ (fun k => (Proc.scVector c s).devRef (r k))
    (fun a b e => hr (Proc.devRef_injective _ e)) (fun k => SparseCore.Cfg.mem_ownRefs_of_owner (ho k)) _⟩

omit [FloatOps F] in
/-- Thirteen of a subcore's own semaphores, out of all of them. -/
theorem ownSems_peel (d : Dev nD) (c : Fin τ.nSC) (s : Fin τ.nSub) (σ : Fin 13 → SemLoc sig) (hσ : Function.Injective σ)
    (ho : ∀ k, (σ k).isScoped .scVector = true) :
    ∃ R : sProp 𝕄, (SparseCore.Cfg.ownSems0 (V d c s) : sProp 𝕄)
      = iprop((bigSep Finset.univ fun k => semVal ((V d c s, σ k) : GSem nD τ sig) 0) ∗ R) := by
  classical
  unfold SparseCore.Cfg.ownSems0
  exact ⟨_, bigSep_named _ (fun k => ((V d c s, σ k) : GSem nD τ sig))
    (fun a b e => hσ (Prod.ext_iff.mp e).2) (fun k => SparseCore.Cfg.mem_ownCells.mpr ⟨rfl, ho k⟩) _⟩

variable (d : Dev nD) (i : grid0.Coords)

section Task

variable (arg2 : Memref sig .scVector .hbm S40960 .i32) (harg2 : arg2.IsWhole) (arg3 : Memref sig .scVector .hbm S1000000x128 .f32) (harg3 : arg3.IsWhole)
  (arg4 : Memref sig .scVector .hbm S40960x128 .f32) (harg4 : arg4.IsWhole) (arg5 : Memref sig .scVector .vmem S1280 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S128x128 .f32) (harg8 : arg8.IsWhole) (arg9 : Memref sig .scVector .vmem S128x128 .f32) (harg9 : arg9.IsWhole)
  (arg10 : Memref sig .scVector .vmem S128x128 .f32) (harg10 : arg10.IsWhole) (arg11 : Memref sig .scVector .vmem S128x128 .f32) (harg11 : arg11.IsWhole)
  (arg12 arg13 arg14 arg15 arg16 arg17 arg18 arg19 arg20 arg21 arg22 arg23 arg24 : DmaSems sig S_)

/-- What the call hands a tile and gets back: its stretch of the list at `fi`, a share of the table at `fx`, and its ten blocks
    of rows at `fo`. -/
def goP (q : PosShare TreeShare) (fi : Buf (Elt F) (arg2.view.loc (V d (cV i) (jV i)))) (fx : Buf (Elt F) (arg3.view.loc (V d (cV i) (jV i))))
    (fo : Buf (Elt F) (arg4.view.loc (V d (cV i) (jV i)))) : sProp 𝕄 :=
  iprop(((idxSlice i arg2).view.loc (V d (cV i) (jV i)) ↦[(idxSlice i arg2).view.set]{fullShare} fi)
    ∗ (arg3.view.loc (V d (cV i) (jV i)) ↦{q} fx)
    ∗ bigSep Finset.univ fun j : Fin 10 => (outSlice i arg4 j).view.loc (V d (cV i) (jV i)) ↦[(outSlice i arg4 j).view.set]{fullShare} fo)

instance goP_storable (q : PosShare TreeShare) (fi : Buf (Elt F) (arg2.view.loc (V d (cV i) (jV i)))) (fx : Buf (Elt F) (arg3.view.loc (V d (cV i) (jV i))))
    (fo : Buf (Elt F) (arg4.view.loc (V d (cV i) (jV i)))) : BI.Storable (upEmb : UEmb _ 𝕄) (goP d i arg2 arg3 arg4 q fi fx fo) := by
  unfold goP; infer_instance

/-- The task, from the call's payload and the subcore's own storage, back to them: the blocks hold `G`, the named rows. -/
theorem task (hF : (K (F := F)).Facts) (q : PosShare TreeShare) (fi : Buf (Elt F) (arg2.view.loc (V d (cV i) (jV i)))) (fx : Buf (Elt F) (arg3.view.loc (V d (cV i) (jV i))))
    (fo G : Buf (Elt F) (arg4.view.loc (V d (cV i) (jV i))))
    (hl : ∀ z, ((idxSlice i arg2).view.read (Elt F) fi z).toNat < 1000000)
    (hG : ∀ (j : Fin 10) (x : S128x128.Idx) (k : Fin 1280), k.val = 128 * j.val + (x 0).val →
      (outSlice i arg4 j).view.read (Elt F) G x
        = arg3.view.read (Elt F) fx (ix2 ⟨((idxSlice i arg2).view.read (Elt F) fi (ix1 k)).toNat, hl _⟩ (x 1)))
    (hb : ∃ R : sProp 𝕄, (SparseCore.Cfg.ownBufs (V d (cV i) (jV i)) : sProp 𝕄) = iprop((
        (∃ f : Buf (Elt F) (arg5.view.loc (V d (cV i) (jV i))), arg5.view.loc (V d (cV i) (jV i)) ↦{fullShare} f) ∗ (∃ f : Buf (Elt F) (arg6.view.loc (V d (cV i) (jV i))), arg6.view.loc (V d (cV i) (jV i)) ↦{fullShare} f) ∗ (∃ f : Buf (Elt F) (arg7.view.loc (V d (cV i) (jV i))), arg7.view.loc (V d (cV i) (jV i)) ↦{fullShare} f) ∗ (∃ f : Buf (Elt F) (arg8.view.loc (V d (cV i) (jV i))), arg8.view.loc (V d (cV i) (jV i)) ↦{fullShare} f) ∗ (∃ f : Buf (Elt F) (arg9.view.loc (V d (cV i) (jV i))), arg9.view.loc (V d (cV i) (jV i)) ↦{fullShare} f) ∗ (∃ f : Buf (Elt F) (arg10.view.loc (V d (cV i) (jV i))), arg10.view.loc (V d (cV i) (jV i)) ↦{fullShare} f) ∗ (∃ f : Buf (Elt F) (arg11.view.loc (V d (cV i) (jV i))), arg11.view.loc (V d (cV i) (jV i)) ↦{fullShare} f)) ∗ R))
    (hs : ∃ R : sProp 𝕄, (SparseCore.Cfg.ownSems0 (V d (cV i) (jV i)) : sProp 𝕄) = iprop((
        semVal ((V d (cV i) (jV i)), .dma arg12.sem) 0 ∗ semVal ((V d (cV i) (jV i)), .dma arg13.sem) 0 ∗ semVal ((V d (cV i) (jV i)), .dma arg14.sem) 0 ∗ semVal ((V d (cV i) (jV i)), .dma arg15.sem) 0 ∗ semVal ((V d (cV i) (jV i)), .dma arg16.sem) 0 ∗ semVal ((V d (cV i) (jV i)), .dma arg17.sem) 0 ∗ semVal ((V d (cV i) (jV i)), .dma arg18.sem) 0 ∗ semVal ((V d (cV i) (jV i)), .dma arg19.sem) 0 ∗ semVal ((V d (cV i) (jV i)), .dma arg20.sem) 0 ∗ semVal ((V d (cV i) (jV i)), .dma arg21.sem) 0 ∗ semVal ((V d (cV i) (jV i)), .dma arg22.sem) 0 ∗ semVal ((V d (cV i) (jV i)), .dma arg23.sem) 0 ∗ semVal ((V d (cV i) (jV i)), .dma arg24.sem) 0) ∗ R))
    (O : CellTallies nD τ sig (HIx 5)) (W : Waits sig (HIx 5)) (hO : ∀ g, O g none = 0) (B : HIx 5 → Prop) :
    iprop(levAts (K (F := F)).L (K (F := F)).lev ∗ emp ∗ goP d i arg2 arg3 arg4 q fi fx fo ∗ scopedBufs (V d (cV i) (jV i)) ∗ scopedSems0 (V d (cV i) (jV i))
        ∗ owes (V d (cV i) (jV i)) O W)
      ⊢ (wp frame (wpE (defs₀ (F := F)) 𝒱₀ (V d (cV i) (jV i)) none) Set.univ
          (cc0__sc_gather_kernel i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24)
          fun _ => iprop(goP d i arg2 arg3 arg4 q fi fx G ∗ scopedBufs (V d (cV i) (jV i)) ∗ scopedSems0 (V d (cV i) (jV i))
            ∗ ∃ W', ⌜∀ p ∈ W', p ∈ W ∨ p.2 = none ∨ B p.2⌝ ∗ owes (V d (cV i) (jV i)) O W') : sProp 𝕄) := by
  obtain ⟨Rb, hb⟩ := hb
  obtain ⟨Rs, hs⟩ := hs
  rw [(K (F := F)).scopedBufs_V hF d (cV i) (jV i), SparseCore.Cfg.scopedSems0_V (Val := Elt F) d (cV i) (jV i), hb, hs]
  unfold goP
  rw [Idealize.ShloMosaic.pointsTo_pieces (ℓ := arg3.view.loc (V d (cV i) (jV i))) Finset.univ fx 3 q, sep4, sep10, sep10]
  iintro ⟨#Hlv, -, ⟨Hi, Hx, Ho⟩, ⟨⟨⟨%f5, Hb5⟩, ⟨%f6, Hb6⟩, ⟨%f7, Hb7⟩, ⟨%f8, Hb8⟩, ⟨%f9, Hb9⟩, ⟨%f10, Hb10⟩, ⟨%f11, Hb11⟩⟩, HRb⟩, ⟨Hs, HRs⟩, HO⟩
  iapply (wp_wand_r _ _ _)
  isplitl [Hi Hx Ho Hb5 Hb6 Hb7 Hb8 Hb9 Hb10 Hb11 Hs HO]
  · iapply (tile_body d i arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 _ _ _ _ fi fx fo f5 f6 f7 f8 f9 f10 f11 G hl hG O W hO)
    isplitr; · iexact Hlv
    isplitl [Hi]; · iexact Hi
    isplitl [Hx]; · iexact Hx
    isplitl [Ho]; · iexact Ho
    isplitl [Hb5 Hb6 Hb7 Hb8 Hb9 Hb10 Hb11]
    · isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      iexact Hb11
    isplitl [Hs]; · iexact Hs
    iexact HO
  iintro %_ ⟨Hi, Hx, Ho, Hbs, Hs, ⟨%W', %hW', HO⟩⟩
  isplitl [Hi Hx Ho]
  · isplitl [Hi]; · iexact Hi
    isplitl [Hx]; · iexact Hx
    iexact Ho
  isplitl [Hbs HRb]
  · isplitl [Hbs]; · iexact Hbs
    iexact HRb
  isplitl [Hs HRs]
  · isplitl [Hs]; · iexact Hs
    iexact HRs
  iexists W'; isplitr
  · ipureintro; exact fun p hp => (hW' p hp).imp_right Or.inl
  · iexact HO

end Task

end Cert.Proof.Lookup
-- ==== Proof.Payload.lean ====
/-
  What the five SparseCore calls hand their tiles: each tile its stretch of the call's list, a read share of the table and its
  ten blocks of the call's output, which come back holding the named rows. The tiles' stretches and blocks make up the whole
  list and the whole output.
-/
module

public import proofs.«01_k».proof.Proof.Task

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- The grid point of SparseCore `c`, tile `s`. -/
def coordsV (c : Fin 2) (s : Fin 16) : grid0.Coords :=
  fun | 0 => c | 1 => s | ⟨_ + 2, h⟩ => absurd h (Nat.not_lt.2 (Nat.le_add_left _ _))

/-- The entries of a list that tile `i` reads. -/
def iSet (i : grid0.Coords) : Finset S40960.Idx := (Rect.unit (s := S40960) (k0_off1 i) S1280.size (k0_off1_inb i)).set
/-- The rows of an output that tile `i` writes in its `j`-th block. -/
def oSet (i : grid0.Coords) (j : Fin 10) : Finset S40960x128.Idx :=
  (Rect.unit (s := S40960x128) (k0_off2 i (BitVec.ofNat 32 (128 * j.val))) S128x128.size (k0_off2_inb i j)).set

omit [FloatOps F] in
theorem mem_iSet (i : grid0.Coords) (x : S40960.Idx) :
    x ∈ iSet i ↔ 2560 * (i 1).val + 1280 * (i 0).val ≤ (x 0).val ∧ (x 0).val < 2560 * (i 1).val + 1280 * (i 0).val + 1280 := by
  unfold iSet
  rw [Rect.mem_set_unit, k0_off1_eq]
  exact Fin.forall_fin_one

omit [FloatOps F] in
theorem mem_oSet (i : grid0.Coords) (j : Fin 10) (x : S40960x128.Idx) :
    x ∈ oSet i j ↔ 2560 * (i 1).val + 1280 * (i 0).val + 128 * j.val ≤ (x 0).val
      ∧ (x 0).val < 2560 * (i 1).val + 1280 * (i 0).val + 128 * j.val + 128 := by
  unfold oSet
  rw [Rect.mem_set_unit, k0_off2_eq]
  refine Fin.forall_fin_two.trans ⟨fun h => h.1, fun h => ⟨h, Nat.zero_le _, ?_⟩⟩
  have h1 : (x 1).val < 128 := (x 1).isLt
  show (x 1).val < 0 + 128
  omega

/-- The rows tile `i` writes. -/
theorem iSets_disjoint : ∀ a ∈ (Finset.univ : Finset (Fin 2 × Fin 16)), ∀ b ∈ (Finset.univ : Finset (Fin 2 × Fin 16)), a ≠ b →
    Disjoint (iSet (coordsV a.1 a.2)) (iSet (coordsV b.1 b.2)) := by
  rintro ⟨c, s⟩ - ⟨c', s'⟩ - h
  refine Finset.disjoint_left.mpr fun x hx hx' => h ?_
  rw [mem_iSet] at hx hx'
  simp only [coordsV] at hx hx'
  have := c.isLt; have := c'.isLt
  refine Prod.ext (Fin.ext ?_) (Fin.ext ?_) <;> simp only <;> omega

theorem iSets_cover : (Finset.univ : Finset (Fin 2 × Fin 16)).biUnion (fun a => iSet (coordsV a.1 a.2)) = Finset.univ := by
  refine Finset.eq_univ_iff_forall.mpr fun x => Finset.mem_biUnion.mpr ?_
  have hx : (x 0).val < 40960 := (x 0).isLt
  refine ⟨(⟨(x 0).val / 1280 % 2, by omega⟩, ⟨(x 0).val / 2560, by omega⟩), Finset.mem_univ _, ?_⟩
  rw [mem_iSet]
  simp only [coordsV]
  omega

theorem oSets_disjoint : ∀ a ∈ (Finset.univ : Finset ((Fin 2 × Fin 16) × Fin 10)), ∀ b ∈ (Finset.univ : Finset ((Fin 2 × Fin 16) × Fin 10)), a ≠ b →
    Disjoint (oSet (coordsV a.1.1 a.1.2) a.2) (oSet (coordsV b.1.1 b.1.2) b.2) := by
  rintro ⟨⟨c, s⟩, j⟩ - ⟨⟨c', s'⟩, j'⟩ - h
  refine Finset.disjoint_left.mpr fun x hx hx' => h ?_
  rw [mem_oSet] at hx hx'
  simp only [coordsV] at hx hx'
  have := c.isLt; have := c'.isLt; have := j.isLt; have := j'.isLt
  refine Prod.ext (Prod.ext (Fin.ext ?_) (Fin.ext ?_)) (Fin.ext ?_) <;> simp only <;> omega

theorem oSets_cover : (Finset.univ : Finset ((Fin 2 × Fin 16) × Fin 10)).biUnion (fun a => oSet (coordsV a.1.1 a.1.2) a.2) = Finset.univ := by
  refine Finset.eq_univ_iff_forall.mpr fun x => Finset.mem_biUnion.mpr ?_
  have hx : (x 0).val < 40960 := (x 0).isLt
  refine ⟨((⟨(x 0).val / 1280 % 2, by omega⟩, ⟨(x 0).val / 2560, by omega⟩), ⟨(x 0).val / 128 % 10, by omega⟩), Finset.mem_univ _, ?_⟩
  rw [mem_oSet]
  simp only [coordsV]
  omega

/-- A buffer over the tiles' parts of it. -/
theorem over_tiles {ℓ : Loc nD τ sig} (f : Buf (Elt F) ℓ) (S : Fin 2 × Fin 16 → Finset (Idx ℓ))
    (hd : ∀ a ∈ (Finset.univ : Finset (Fin 2 × Fin 16)), ∀ b ∈ (Finset.univ : Finset (Fin 2 × Fin 16)), a ≠ b → Disjoint (S a) (S b))
    (hc : (Finset.univ : Finset (Fin 2 × Fin 16)).biUnion S = Finset.univ) :
    (ℓ ↦{fullShare} f : sProp 𝕄) = bigSep Finset.univ fun c : Fin 2 => bigSep Finset.univ fun s : Fin 16 => ℓ ↦[S (c, s)]{fullShare} f := by
  rw [← bigSep_univ_prod (fun a : Fin 2 × Fin 16 => (ℓ ↦[S a]{fullShare} f : sProp 𝕄)), ← pointsTo_biUnion _ S hd, hc]

/-- A buffer over the tiles' ten parts of it. -/
theorem over_blocks {ℓ : Loc nD τ sig} (f : Buf (Elt F) ℓ) (S : (Fin 2 × Fin 16) × Fin 10 → Finset (Idx ℓ))
    (hd : ∀ a ∈ (Finset.univ : Finset ((Fin 2 × Fin 16) × Fin 10)), ∀ b ∈ (Finset.univ : Finset ((Fin 2 × Fin 16) × Fin 10)), a ≠ b → Disjoint (S a) (S b))
    (hc : (Finset.univ : Finset ((Fin 2 × Fin 16) × Fin 10)).biUnion S = Finset.univ) :
    (ℓ ↦{fullShare} f : sProp 𝕄) = bigSep Finset.univ fun c : Fin 2 => bigSep Finset.univ fun s : Fin 16 => bigSep Finset.univ fun j : Fin 10 =>
      ℓ ↦[S ((c, s), j)]{fullShare} f := by
  rw [← bigSep_univ_prod (fun a : Fin 2 × Fin 16 => bigSep Finset.univ fun j : Fin 10 => (ℓ ↦[S (a, j)]{fullShare} f : sProp 𝕄)),
    ← bigSep_univ_prod (fun a : (Fin 2 × Fin 16) × Fin 10 => (ℓ ↦[S a]{fullShare} f : sProp 𝕄)), ← pointsTo_biUnion _ S hd, hc]

/-- The share of the table that tile `s` of SparseCore `c` reads through. -/
def tileShare (c : Fin 2) (s : Fin 16) : PosShare TreeShare := piece (piece fullShare 1 c) 15 s

/-- A buffer over the tiles' shares of it. -/
theorem over_shares {ℓ : Loc nD τ sig} (f : Buf (Elt F) ℓ) :
    (ℓ ↦{fullShare} f : sProp 𝕄) = bigSep Finset.univ fun c : Fin 2 => bigSep Finset.univ fun s : Fin 16 => ℓ ↦{tileShare c s} f := by
  rw [Idealize.ShloMosaic.pointsTo_pieces Finset.univ f 1 fullShare]
  exact bigSep_congr fun c _ => Idealize.ShloMosaic.pointsTo_pieces Finset.univ f 15 _

/-- The table. -/
abbrev tabLoc (d : Dev nD) : Loc nD τ sig := (SparseCore.T d).loc main_arg1
/-- The list and the output of call 0. -/
abbrev listLoc0 (d : Dev nD) : Loc nD τ sig := (SparseCore.T d).loc main_v5
abbrev outLoc0 (d : Dev nD) : Loc nD τ sig := (SparseCore.T d).loc main_v6
/-- The list and the output of call 1. -/
abbrev listLoc1 (d : Dev nD) : Loc nD τ sig := (SparseCore.T d).loc main_v7
abbrev outLoc1 (d : Dev nD) : Loc nD τ sig := (SparseCore.T d).loc main_v8
/-- The list and the output of call 2. -/
abbrev listLoc2 (d : Dev nD) : Loc nD τ sig := (SparseCore.T d).loc main_v9
abbrev outLoc2 (d : Dev nD) : Loc nD τ sig := (SparseCore.T d).loc main_v10
/-- The list and the output of call 3. -/
abbrev listLoc3 (d : Dev nD) : Loc nD τ sig := (SparseCore.T d).loc main_v11
abbrev outLoc3 (d : Dev nD) : Loc nD τ sig := (SparseCore.T d).loc main_v12
/-- The list and the output of call 4. -/
abbrev listLoc4 (d : Dev nD) : Loc nD τ sig := (SparseCore.T d).loc main_v13
abbrev outLoc4 (d : Dev nD) : Loc nD τ sig := (SparseCore.T d).loc main_v14

/-- Some entries of the list of call `q`. -/
def listPt (q : Fin 5) (d : Dev nD) (I : Finset S40960.Idx) (f : S40960.Idx → Elt F .i32) : sProp 𝕄 :=
  match q with
  | 0 => listLoc0 d ↦[I]{fullShare} f
  | 1 => listLoc1 d ↦[I]{fullShare} f
  | 2 => listLoc2 d ↦[I]{fullShare} f
  | 3 => listLoc3 d ↦[I]{fullShare} f
  | 4 => listLoc4 d ↦[I]{fullShare} f
/-- Some rows of the output of call `q`. -/
def outPt (q : Fin 5) (d : Dev nD) (I : Finset S40960x128.Idx) (f : S40960x128.Idx → Elt F .f32) : sProp 𝕄 :=
  match q with
  | 0 => outLoc0 d ↦[I]{fullShare} f
  | 1 => outLoc1 d ↦[I]{fullShare} f
  | 2 => outLoc2 d ↦[I]{fullShare} f
  | 3 => outLoc3 d ↦[I]{fullShare} f
  | 4 => outLoc4 d ↦[I]{fullShare} f
/-- A share of the table. -/
def tabPt (d : Dev nD) (sh : PosShare TreeShare) (f : S1000000x128.Idx → Elt F .f32) : sProp 𝕄 := tabLoc d ↦{sh} f

instance listPt_storable (q : Fin 5) (d : Dev nD) (I : Finset S40960.Idx) (f : S40960.Idx → Elt F .i32) : BI.Storable (upEmb : UEmb _ 𝕄) (listPt q d I f) :=
  match q with
  | 0 | 1 | 2 | 3 | 4 => by unfold listPt; infer_instance
instance outPt_storable (q : Fin 5) (d : Dev nD) (I : Finset S40960x128.Idx) (f : S40960x128.Idx → Elt F .f32) : BI.Storable (upEmb : UEmb _ 𝕄) (outPt q d I f) :=
  match q with
  | 0 | 1 | 2 | 3 | 4 => by unfold outPt; infer_instance
instance tabPt_storable (d : Dev nD) (sh : PosShare TreeShare) (f : S1000000x128.Idx → Elt F .f32) : BI.Storable (upEmb : UEmb _ 𝕄) (tabPt d sh f) := by
  unfold tabPt; infer_instance

/-- What tile `i` is handed at call `q`: its entries of the list at `fi`, a share of the table at `fx`, its blocks of the output
    at `fo`. -/
def tileHas (q : Fin 5) (d : Dev nD) (i : grid0.Coords) (sh : PosShare TreeShare) (fi : S40960.Idx → Elt F .i32)
    (fx : S1000000x128.Idx → Elt F .f32) (fo : S40960x128.Idx → Elt F .f32) : sProp 𝕄 :=
  iprop(listPt q d (iSet i) fi ∗ tabPt d sh fx ∗ bigSep Finset.univ fun j : Fin 10 => outPt q d (oSet i j) fo)

instance tileHas_storable (q : Fin 5) (d : Dev nD) (i : grid0.Coords) (sh : PosShare TreeShare) (fi : S40960.Idx → Elt F .i32)
    (fx : S1000000x128.Idx → Elt F .f32) (fo : S40960x128.Idx → Elt F .f32) : BI.Storable (upEmb : UEmb _ 𝕄) (tileHas q d i sh fi fx fo) := by
  unfold tileHas; infer_instance

/-- The three buffers of call `q` whole. -/
def wholeHas (q : Fin 5) (d : Dev nD) (fi : S40960.Idx → Elt F .i32) (fx : S1000000x128.Idx → Elt F .f32) (fo : S40960x128.Idx → Elt F .f32) : sProp 𝕄 :=
  iprop(listPt q d Finset.univ fi ∗ tabPt d fullShare fx ∗ outPt q d Finset.univ fo)

/-- A list over the tiles' stretches of it. -/
theorem listPt_tiles (q : Fin 5) (d : Dev nD) (f : S40960.Idx → Elt F .i32) :
    (listPt q d Finset.univ f : sProp 𝕄) = bigSep Finset.univ fun c : Fin 2 => bigSep Finset.univ fun s : Fin 16 => listPt q d (iSet (coordsV c s)) f := by
  match q with
  | 0 => exact over_tiles (ℓ := listLoc0 d) f (fun a => iSet (coordsV a.1 a.2)) iSets_disjoint iSets_cover
  | 1 => exact over_tiles (ℓ := listLoc1 d) f (fun a => iSet (coordsV a.1 a.2)) iSets_disjoint iSets_cover
  | 2 => exact over_tiles (ℓ := listLoc2 d) f (fun a => iSet (coordsV a.1 a.2)) iSets_disjoint iSets_cover
  | 3 => exact over_tiles (ℓ := listLoc3 d) f (fun a => iSet (coordsV a.1 a.2)) iSets_disjoint iSets_cover
  | 4 => exact over_tiles (ℓ := listLoc4 d) f (fun a => iSet (coordsV a.1 a.2)) iSets_disjoint iSets_cover
/-- An output over the tiles' blocks of it. -/
theorem outPt_tiles (q : Fin 5) (d : Dev nD) (f : S40960x128.Idx → Elt F .f32) :
    (outPt q d Finset.univ f : sProp 𝕄) = bigSep Finset.univ fun c : Fin 2 => bigSep Finset.univ fun s : Fin 16 => bigSep Finset.univ fun j : Fin 10 =>
      outPt q d (oSet (coordsV c s) j) f := by
  match q with
  | 0 => exact over_blocks (ℓ := outLoc0 d) f (fun a => oSet (coordsV a.1.1 a.1.2) a.2) oSets_disjoint oSets_cover
  | 1 => exact over_blocks (ℓ := outLoc1 d) f (fun a => oSet (coordsV a.1.1 a.1.2) a.2) oSets_disjoint oSets_cover
  | 2 => exact over_blocks (ℓ := outLoc2 d) f (fun a => oSet (coordsV a.1.1 a.1.2) a.2) oSets_disjoint oSets_cover
  | 3 => exact over_blocks (ℓ := outLoc3 d) f (fun a => oSet (coordsV a.1.1 a.1.2) a.2) oSets_disjoint oSets_cover
  | 4 => exact over_blocks (ℓ := outLoc4 d) f (fun a => oSet (coordsV a.1.1 a.1.2) a.2) oSets_disjoint oSets_cover
/-- The table over the tiles' shares of it. -/
theorem tabPt_tiles (d : Dev nD) (f : S1000000x128.Idx → Elt F .f32) :
    (tabPt d fullShare f : sProp 𝕄) = bigSep Finset.univ fun c : Fin 2 => bigSep Finset.univ fun s : Fin 16 => tabPt d (tileShare c s) f :=
  over_shares (ℓ := tabLoc d) f

/-- The buffers of call `q` whole are the tiles' parts of them. -/
theorem wholeHas_eq (q : Fin 5) (d : Dev nD) (fi : S40960.Idx → Elt F .i32) (fx : S1000000x128.Idx → Elt F .f32) (fo : S40960x128.Idx → Elt F .f32) :
    (wholeHas q d fi fx fo : sProp 𝕄)
      = bigSep Finset.univ fun c : Fin 2 => bigSep Finset.univ fun s : Fin 16 => tileHas q d (coordsV c s) (tileShare c s) fi fx fo := by
  unfold wholeHas tileHas
  rw [listPt_tiles, tabPt_tiles, outPt_tiles]
  simp only [bigSep_sep']

/-- Every call runs on both SparseCores. -/
theorem nCore_eq (q : Fin 5) : (K (F := F)).nCore q = 2 := by
  match q with
  | 0 => rfl
  | 1 => rfl
  | 2 => rfl
  | 3 => rfl
  | 4 => rfl
/-- Every call runs on all sixteen tiles of each. -/
theorem nSub_eq (q : Fin 5) : (K (F := F)).nSub q = 16 := by
  match q with
  | 0 => rfl
  | 1 => rfl
  | 2 => rfl
  | 3 => rfl
  | 4 => rfl

/-- The rows of the table that a list names, one under the other (a number beyond the table wraps around). -/
def gathered (l : S40960.Idx → Elt F .i32) (x : S1000000x128.Idx → Elt F .f32) : S40960x128.Idx → Elt F .f32 :=
  fun z => x (ix2 (⟨(l (ix1 (z 0))).toNat % 1000000, Nat.mod_lt _ (by decide)⟩ : Fin 1000000) (z 1))

variable (L : Fin 5 → Dev nD → S40960.Idx → Elt F .i32) (X : Dev nD → S1000000x128.Idx → Elt F .f32) (O₀ : Fin 5 → Dev nD → S40960x128.Idx → Elt F .f32)

/-- What a tile is handed, the tile named by its place in call `q`. -/
def tilePart (q : Fin 5) (d : Dev nD) (c : Fin ((K (F := F)).nCore q)) (s : Fin ((K (F := F)).nSub q)) (fo : S40960x128.Idx → Elt F .f32) : sProp 𝕄 :=
  tileHas q d (coordsV (c.cast (nCore_eq q)) (s.cast (nSub_eq q))) (tileShare (c.cast (nCore_eq q)) (s.cast (nSub_eq q))) (L q d) (X d) fo
/-- What a SparseCore is handed: its tiles' parts. -/
def corePart (q : Fin 5) (d : Dev nD) (c : Fin ((K (F := F)).nCore q)) (fo : S40960x128.Idx → Elt F .f32) : sProp 𝕄 :=
  bigSep Finset.univ fun s => tilePart L X q d c s fo

instance tilePart_storable (q : Fin 5) (d : Dev nD) (c : Fin ((K (F := F)).nCore q)) (s : Fin ((K (F := F)).nSub q)) (fo : S40960x128.Idx → Elt F .f32) :
    BI.Storable (upEmb : UEmb _ 𝕄) (tilePart L X q d c s fo) := by unfold tilePart; infer_instance
instance corePart_storable (q : Fin 5) (d : Dev nD) (c : Fin ((K (F := F)).nCore q)) (fo : S40960x128.Idx → Elt F .f32) :
    BI.Storable (upEmb : UEmb _ 𝕄) (corePart L X q d c fo) := by unfold corePart; infer_instance

/-- The launch's payloads: each call hands a tile its parts and takes them back with the named rows in the output. -/
def P : (K (F := F)).Pay (nD := nD) (Val := Elt F) (Name := ℕ) (U := UU) where
  st q d c := corePart L X q d c (O₀ q d)
  dn q d c := corePart L X q d c (gathered (L q d) (X d))
  go q d c s := tilePart L X q d c s (O₀ q d)
  td q d c s := tilePart L X q d c s (gathered (L q d) (X d))
  x _ _ := iprop(emp)

instance P_storable : (P (F := F) L X O₀).IsStorable where
  st q d c := corePart_storable L X q d c _
  dn q d c := corePart_storable L X q d c _
  go q d c s := tilePart_storable L X q d c s _
  td q d c s := tilePart_storable L X q d c s _

/-- A sequencer hands its tiles' parts on as they come, and back. -/
theorem vecSplit (q : Fin 5) : (K (F := F)).VecSplit' (P L X O₀) q := by
  intro d c
  show corePart L X q d c (O₀ q d) ⊢ |={Set.univ}=> iprop(corePart L X q d c (O₀ q d)
    ∗ (corePart L X q d c (gathered (L q d) (X d)) -∗ corePart L X q d c (gathered (L q d) (X d))))
  iintro H; imodintro
  isplitl [H]; · iexact H
  iintro H; iexact H

theorem bigSep_cast {n k : ℕ} (h : n = k) (Φ : Fin k → sProp 𝕄) :
    (bigSep Finset.univ fun a : Fin n => Φ (a.cast h)) = bigSep Finset.univ Φ := by subst h; rfl

/-- The SparseCores' parts are the whole of the call's three buffers. -/
theorem coreParts_eq (q : Fin 5) (d : Dev nD) (fo : S40960x128.Idx → Elt F .f32) :
    (bigSep Finset.univ fun c : Fin ((K (F := F)).nCore q) => corePart L X q d c fo) = wholeHas q d (L q d) (X d) fo := by
  rw [wholeHas_eq, ← bigSep_cast (nCore_eq (F := F) q)]
  refine bigSep_congr fun c _ => ?_
  exact bigSep_cast (nSub_eq (F := F) q) fun s => tileHas q d (coordsV (c.cast (nCore_eq q)) s) (tileShare (c.cast (nCore_eq q)) s) (L q d) (X d) fo

end Cert.Proof.Lookup
-- ==== Proof.Obligation.lean ====
/-
  Each SparseCore call's task, at every tile, does what the launch asks of it: from its parts to its parts with the named rows.
-/
module

public import proofs.«01_k».proof.Proof.Payload

@[expose] public section

noncomputable section

namespace Cert.Proof.Lookup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- The row of the table that a tile's `k`-th number names is the gathered row at the place the tile writes it to. -/
theorem gathered_at (i : grid0.Coords) (l : S40960.Idx → Elt F .i32) (x : S1000000x128.Idx → Elt F .f32) (hl : ∀ z, (l z).toNat < 1000000)
    (j : Fin 10) (z : S128x128.Idx) (k : Fin 1280) (hk : k.val = 128 * j.val + (z 0).val) :
    gathered l x ((Rect.unit (s := S40960x128) (k0_off2 i (BitVec.ofNat 32 (128 * j.val))) S128x128.size (k0_off2_inb i j)).emb z)
      = x (ix2 (⟨(l ((Rect.unit (s := S40960) (k0_off1 i) S1280.size (k0_off1_inb i)).emb (ix1 k))).toNat, hl _⟩ : Fin 1000000) (z 1)) := by
  have e : ix1 ((Rect.unit (s := S40960x128) (k0_off2 i (BitVec.ofNat 32 (128 * j.val))) S128x128.size (k0_off2_inb i j)).emb z 0)
      = (Rect.unit (s := S40960) (k0_off1 i) S1280.size (k0_off1_inb i)).emb (ix1 k) := by
    funext a
    match a with
    | 0 =>
      have h1 := congrFun (k0_off1_eq i) 0
      have h2 := congrFun (k0_off2_eq i j) 0
      refine Fin.ext ?_
      show k0_off2 i (BitVec.ofNat 32 (128 * j.val)) 0 + 1 * (z 0).val = k0_off1 i 0 + 1 * k.val
      rw [h1, h2]
      show 2560 * (i 1).val + 1280 * (i 0).val + 128 * j.val + 1 * (z 0).val = 2560 * (i 1).val + 1280 * (i 0).val + 1 * k.val
      omega
  have e1 : (Rect.unit (s := S40960x128) (k0_off2 i (BitVec.ofNat 32 (128 * j.val))) S128x128.size (k0_off2_inb i j)).emb z 1 = z 1 := by
    have h2 := congrFun (k0_off2_eq i j) 1
    refine Fin.ext ?_
    show k0_off2 i (BitVec.ofNat 32 (128 * j.val)) 1 + 1 * (z 1).val = (z 1).val
    rw [h2]
    show 0 + 1 * (z 1).val = (z 1).val
    omega
  exact congrArg x (congrArg₂ ix2 (Fin.ext ((congrArg (fun t => (l t).toNat % 1000000) e).trans (Nat.mod_eq_of_lt (hl _)))) e1)

variable (L : Fin 5 → Dev nD → S40960.Idx → Elt F .i32) (X : Dev nD → S1000000x128.Idx → Elt F .f32) (O₀ : Fin 5 → Dev nD → S40960x128.Idx → Elt F .f32)

/-- Call 0's parts of a tile, through the tile's own views of them. -/
theorem goP_eq0 (d : Dev nD) (i : grid0.Coords) (sh : PosShare TreeShare) (fi : S40960.Idx → Elt F .i32) (fx : S1000000x128.Idx → Elt F .f32)
    (fo : S40960x128.Idx → Elt F .f32) :
    (goP d i (Memref.whole main_v5_scv) (Memref.whole main_arg1_scv) (Memref.whole main_v6_scv) sh fi fx fo : sProp 𝕄) = tileHas 0 d i sh fi fx fo := by
  have h1 : (idxSlice i (Memref.whole main_v5_scv)).view.set = iSet i := View.set_slice_whole _ _
  have h2 (j : Fin 10) : (outSlice i (Memref.whole main_v6_scv) j).view.set = oSet i j := View.set_slice_whole _ _
  unfold goP
  simp only [h1, h2]
  rfl

theorem defs₀_call0 (c : Fin τ.nSC) (s : Fin τ.nSub) :
    defs₀ (F := F) (.scVector c s) 0 ()
      = SparseCore.onTile hcore0 hsub0 (fun c s => cc0__sc_gather_kernel (coordsV c s)
          (Memref.whole main_v5_scv) (Memref.isWhole_whole _) (Memref.whole main_arg1_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
          cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

/-- Call 0's task at one tile. -/
theorem tileTask0 (hL : ∀ q d z, (L q d z).toNat < 1000000) (d : Dev nD) (i : grid0.Coords) (sh : PosShare TreeShare)
    (O : CellTallies nD τ sig (HIx 5)) (W : Waits sig (HIx 5)) (hO : ∀ g, O g none = 0) (B : HIx 5 → Prop) :
    iprop(levAts (K (F := F)).L (K (F := F)).lev ∗ emp ∗ tileHas 0 d i sh (L 0 d) (X d) (O₀ 0 d) ∗ scopedBufs (V d (cV i) (jV i)) ∗ scopedSems0 (V d (cV i) (jV i))
        ∗ owes (V d (cV i) (jV i)) O W)
      ⊢ (wp frame (wpE (defs₀ (F := F)) 𝒱₀ (V d (cV i) (jV i)) none) Set.univ
          (cc0__sc_gather_kernel i
          (Memref.whole main_v5_scv) (Memref.isWhole_whole _) (Memref.whole main_arg1_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
          cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(tileHas 0 d i sh (L 0 d) (X d) (gathered (L 0 d) (X d)) ∗ scopedBufs (V d (cV i) (jV i)) ∗ scopedSems0 (V d (cV i) (jV i))
            ∗ ∃ W', ⌜∀ p ∈ W', p ∈ W ∨ p.2 = none ∨ B p.2⌝ ∗ owes (V d (cV i) (jV i)) O W') : sProp 𝕄) := by
  have hb := ownBufs_peel (F := F) d (cV i) (jV i) ![cc0_scratch0, cc0_scratch1, cc0_scratch2, cc0_scratch3, cc0_scratch4, cc0_scratch5, cc0_scratch6] (by decide) (fun k => by fin_cases k <;> rfl)
  have hs := ownSems_peel (F := F) d (cV i) (jV i) ![.dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scratch16.sem, .dma cc0_scratch17.sem, .dma cc0_scratch18.sem, .dma cc0_scoped0.sem] (by decide) (fun k => by fin_cases k <;> rfl)
  rw [sep7] at hb
  rw [sep13] at hs
  rw [← goP_eq0, ← goP_eq0]
  have hl : ∀ z, ((idxSlice i (Memref.whole main_v5_scv)).view.read (Elt F) (L 0 d) z).toNat < 1000000 := fun _ => hL 0 d _
  have hG : ∀ (j : Fin 10) (x : S128x128.Idx) (k : Fin 1280), k.val = 128 * j.val + (x 0).val →
      (outSlice i (Memref.whole main_v6_scv) j).view.read (Elt F) (gathered (L 0 d) (X d)) x
        = (Memref.whole main_arg1_scv).view.read (Elt F) (X d) (ix2 ⟨((idxSlice i (Memref.whole main_v5_scv)).view.read (Elt F) (L 0 d) (ix1 k)).toNat, hl _⟩ (x 1)) :=
    fun j x z hz => gathered_at i (L 0 d) (X d) (hL 0 d) j x z hz
  exact task d i
    (Memref.whole main_v5_scv) (Memref.isWhole_whole _) (Memref.whole main_arg1_scv) (Memref.isWhole_whole _) (Memref.whole main_v6_scv) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16 cc0_scratch17 cc0_scratch18 cc0_scoped0
    launchFacts sh (L 0 d) (X d) (O₀ 0 d) (gathered (L 0 d) (X d)) hl hG hb hs O W hO B

set_option maxRecDepth 16384 in
/-- Call 0's obligation to the launch. -/
theorem tileObl0 (hL : ∀ q d z, (L q d z).toNat < 1000000) : (K (F := F)).TileObl (D (F := F)) 𝒱 (P L X O₀) v₀ 0 := by
  intro d c i O W hO _ _
  simp only [show (P L X O₀).ox = fun _ _ => 0 from rfl, add_zero]
  have hci : ((K (F := F)).core 0 c).val < grid0.bound 0 ∧ ((K (F := F)).sub 0 i).val < grid0.bound 1 := ⟨c.isLt, i.isLt⟩
  change (_ : sProp 𝕄) ⊢ wp frame (wpE (D (F := F)) 𝒱 (V d ((K (F := F)).core 0 c) ((K (F := F)).sub 0 i)) (some v₀)) Set.univ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  exact tileTask0 L X O₀ hL d (coordsV ⟨_, hci.1⟩ ⟨_, hci.2⟩) _ O W hO _

/-- Call 1's parts of a tile, through the tile's own views of them. -/
theorem goP_eq1 (d : Dev nD) (i : grid0.Coords) (sh : PosShare TreeShare) (fi : S40960.Idx → Elt F .i32) (fx : S1000000x128.Idx → Elt F .f32)
    (fo : S40960x128.Idx → Elt F .f32) :
    (goP d i (Memref.whole main_v7_scv) (Memref.whole main_arg1_scv) (Memref.whole main_v8_scv) sh fi fx fo : sProp 𝕄) = tileHas 1 d i sh fi fx fo := by
  have h1 : (idxSlice i (Memref.whole main_v7_scv)).view.set = iSet i := View.set_slice_whole _ _
  have h2 (j : Fin 10) : (outSlice i (Memref.whole main_v8_scv) j).view.set = oSet i j := View.set_slice_whole _ _
  unfold goP
  simp only [h1, h2]
  rfl

theorem defs₀_call1 (c : Fin τ.nSC) (s : Fin τ.nSub) :
    defs₀ (F := F) (.scVector c s) 1 ()
      = SparseCore.onTile hcore1 hsub1 (fun c s => cc1__sc_gather_kernel (coordsV c s)
          (Memref.whole main_v7_scv) (Memref.isWhole_whole _) (Memref.whole main_arg1_scv) (Memref.isWhole_whole _) (Memref.whole main_v8_scv) (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
          cc1_scratch7 cc1_scratch8 cc1_scratch9 cc1_scratch10 cc1_scratch11 cc1_scratch12 cc1_scratch13 cc1_scratch14 cc1_scratch15 cc1_scratch16 cc1_scratch17 cc1_scratch18 cc1_scoped0) ⟨⟩ c s := rfl

/-- Call 1's task at one tile. -/
theorem tileTask1 (hL : ∀ q d z, (L q d z).toNat < 1000000) (d : Dev nD) (i : grid0.Coords) (sh : PosShare TreeShare)
    (O : CellTallies nD τ sig (HIx 5)) (W : Waits sig (HIx 5)) (hO : ∀ g, O g none = 0) (B : HIx 5 → Prop) :
    iprop(levAts (K (F := F)).L (K (F := F)).lev ∗ emp ∗ tileHas 1 d i sh (L 1 d) (X d) (O₀ 1 d) ∗ scopedBufs (V d (cV i) (jV i)) ∗ scopedSems0 (V d (cV i) (jV i))
        ∗ owes (V d (cV i) (jV i)) O W)
      ⊢ (wp frame (wpE (defs₀ (F := F)) 𝒱₀ (V d (cV i) (jV i)) none) Set.univ
          (cc1__sc_gather_kernel i
          (Memref.whole main_v7_scv) (Memref.isWhole_whole _) (Memref.whole main_arg1_scv) (Memref.isWhole_whole _) (Memref.whole main_v8_scv) (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
          cc1_scratch7 cc1_scratch8 cc1_scratch9 cc1_scratch10 cc1_scratch11 cc1_scratch12 cc1_scratch13 cc1_scratch14 cc1_scratch15 cc1_scratch16 cc1_scratch17 cc1_scratch18 cc1_scoped0)
          fun _ => iprop(tileHas 1 d i sh (L 1 d) (X d) (gathered (L 1 d) (X d)) ∗ scopedBufs (V d (cV i) (jV i)) ∗ scopedSems0 (V d (cV i) (jV i))
            ∗ ∃ W', ⌜∀ p ∈ W', p ∈ W ∨ p.2 = none ∨ B p.2⌝ ∗ owes (V d (cV i) (jV i)) O W') : sProp 𝕄) := by
  have hb := ownBufs_peel (F := F) d (cV i) (jV i) ![cc1_scratch0, cc1_scratch1, cc1_scratch2, cc1_scratch3, cc1_scratch4, cc1_scratch5, cc1_scratch6] (by decide) (fun k => by fin_cases k <;> rfl)
  have hs := ownSems_peel (F := F) d (cV i) (jV i) ![.dma cc1_scratch7.sem, .dma cc1_scratch8.sem, .dma cc1_scratch9.sem, .dma cc1_scratch10.sem, .dma cc1_scratch11.sem, .dma cc1_scratch12.sem, .dma cc1_scratch13.sem, .dma cc1_scratch14.sem, .dma cc1_scratch15.sem, .dma cc1_scratch16.sem, .dma cc1_scratch17.sem, .dma cc1_scratch18.sem, .dma cc1_scoped0.sem] (by decide) (fun k => by fin_cases k <;> rfl)
  rw [sep7] at hb
  rw [sep13] at hs
  rw [cc1_eq, ← goP_eq1, ← goP_eq1]
  have hl : ∀ z, ((idxSlice i (Memref.whole main_v7_scv)).view.read (Elt F) (L 1 d) z).toNat < 1000000 := fun _ => hL 1 d _
  have hG : ∀ (j : Fin 10) (x : S128x128.Idx) (k : Fin 1280), k.val = 128 * j.val + (x 0).val →
      (outSlice i (Memref.whole main_v8_scv) j).view.read (Elt F) (gathered (L 1 d) (X d)) x
        = (Memref.whole main_arg1_scv).view.read (Elt F) (X d) (ix2 ⟨((idxSlice i (Memref.whole main_v7_scv)).view.read (Elt F) (L 1 d) (ix1 k)).toNat, hl _⟩ (x 1)) :=
    fun j x z hz => gathered_at i (L 1 d) (X d) (hL 1 d) j x z hz
  exact task d i
    (Memref.whole main_v7_scv) (Memref.isWhole_whole _) (Memref.whole main_arg1_scv) (Memref.isWhole_whole _) (Memref.whole main_v8_scv) (Memref.isWhole_whole _)
    (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
    cc1_scratch7 cc1_scratch8 cc1_scratch9 cc1_scratch10 cc1_scratch11 cc1_scratch12 cc1_scratch13 cc1_scratch14 cc1_scratch15 cc1_scratch16 cc1_scratch17 cc1_scratch18 cc1_scoped0
    launchFacts sh (L 1 d) (X d) (O₀ 1 d) (gathered (L 1 d) (X d)) hl hG hb hs O W hO B

set_option maxRecDepth 16384 in
/-- Call 1's obligation to the launch. -/
theorem tileObl1 (hL : ∀ q d z, (L q d z).toNat < 1000000) : (K (F := F)).TileObl (D (F := F)) 𝒱 (P L X O₀) v₀ 1 := by
  intro d c i O W hO _ _
  simp only [show (P L X O₀).ox = fun _ _ => 0 from rfl, add_zero]
  have hci : ((K (F := F)).core 1 c).val < grid1.bound 0 ∧ ((K (F := F)).sub 1 i).val < grid1.bound 1 := ⟨c.isLt, i.isLt⟩
  change (_ : sProp 𝕄) ⊢ wp frame (wpE (D (F := F)) 𝒱 (V d ((K (F := F)).core 1 c) ((K (F := F)).sub 1 i)) (some v₀)) Set.univ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact tileTask1 L X O₀ hL d (coordsV ⟨_, hci.1⟩ ⟨_, hci.2⟩) _ O W hO _

/-- Call 2's parts of a tile, through the tile's own views of them. -/
theorem goP_eq2 (d : Dev nD) (i : grid0.Coords) (sh : PosShare TreeShare) (fi : S40960.Idx → Elt F .i32) (fx : S1000000x128.Idx → Elt F .f32)
    (fo : S40960x128.Idx → Elt F .f32) :
    (goP d i (Memref.whole main_v9_scv) (Memref.whole main_arg1_scv) (Memref.whole main_v10_scv) sh fi fx fo : sProp 𝕄) = tileHas 2 d i sh fi fx fo := by
  have h1 : (idxSlice i (Memref.whole main_v9_scv)).view.set = iSet i := View.set_slice_whole _ _
  have h2 (j : Fin 10) : (outSlice i (Memref.whole main_v10_scv) j).view.set = oSet i j := View.set_slice_whole _ _
  unfold goP
  simp only [h1, h2]
  rfl

theorem defs₀_call2 (c : Fin τ.nSC) (s : Fin τ.nSub) :
    defs₀ (F := F) (.scVector c s) 2 ()
      = SparseCore.onTile hcore2 hsub2 (fun c s => cc2__sc_gather_kernel (coordsV c s)
          (Memref.whole main_v9_scv) (Memref.isWhole_whole _) (Memref.whole main_arg1_scv) (Memref.isWhole_whole _) (Memref.whole main_v10_scv) (Memref.isWhole_whole _)
          (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _)
          cc2_scratch7 cc2_scratch8 cc2_scratch9 cc2_scratch10 cc2_scratch11 cc2_scratch12 cc2_scratch13 cc2_scratch14 cc2_scratch15 cc2_scratch16 cc2_scratch17 cc2_scratch18 cc2_scoped0) ⟨⟩ c s := rfl

/-- Call 2's task at one tile. -/
theorem tileTask2 (hL : ∀ q d z, (L q d z).toNat < 1000000) (d : Dev nD) (i : grid0.Coords) (sh : PosShare TreeShare)
    (O : CellTallies nD τ sig (HIx 5)) (W : Waits sig (HIx 5)) (hO : ∀ g, O g none = 0) (B : HIx 5 → Prop) :
    iprop(levAts (K (F := F)).L (K (F := F)).lev ∗ emp ∗ tileHas 2 d i sh (L 2 d) (X d) (O₀ 2 d) ∗ scopedBufs (V d (cV i) (jV i)) ∗ scopedSems0 (V d (cV i) (jV i))
        ∗ owes (V d (cV i) (jV i)) O W)
      ⊢ (wp frame (wpE (defs₀ (F := F)) 𝒱₀ (V d (cV i) (jV i)) none) Set.univ
          (cc2__sc_gather_kernel i
          (Memref.whole main_v9_scv) (Memref.isWhole_whole _) (Memref.whole main_arg1_scv) (Memref.isWhole_whole _) (Memref.whole main_v10_scv) (Memref.isWhole_whole _)
          (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _)
          cc2_scratch7 cc2_scratch8 cc2_scratch9 cc2_scratch10 cc2_scratch11 cc2_scratch12 cc2_scratch13 cc2_scratch14 cc2_scratch15 cc2_scratch16 cc2_scratch17 cc2_scratch18 cc2_scoped0)
          fun _ => iprop(tileHas 2 d i sh (L 2 d) (X d) (gathered (L 2 d) (X d)) ∗ scopedBufs (V d (cV i) (jV i)) ∗ scopedSems0 (V d (cV i) (jV i))
            ∗ ∃ W', ⌜∀ p ∈ W', p ∈ W ∨ p.2 = none ∨ B p.2⌝ ∗ owes (V d (cV i) (jV i)) O W') : sProp 𝕄) := by
  have hb := ownBufs_peel (F := F) d (cV i) (jV i) ![cc2_scratch0, cc2_scratch1, cc2_scratch2, cc2_scratch3, cc2_scratch4, cc2_scratch5, cc2_scratch6] (by decide) (fun k => by fin_cases k <;> rfl)
  have hs := ownSems_peel (F := F) d (cV i) (jV i) ![.dma cc2_scratch7.sem, .dma cc2_scratch8.sem, .dma cc2_scratch9.sem, .dma cc2_scratch10.sem, .dma cc2_scratch11.sem, .dma cc2_scratch12.sem, .dma cc2_scratch13.sem, .dma cc2_scratch14.sem, .dma cc2_scratch15.sem, .dma cc2_scratch16.sem, .dma cc2_scratch17.sem, .dma cc2_scratch18.sem, .dma cc2_scoped0.sem] (by decide) (fun k => by fin_cases k <;> rfl)
  rw [sep7] at hb
  rw [sep13] at hs
  rw [cc2_eq, ← goP_eq2, ← goP_eq2]
  have hl : ∀ z, ((idxSlice i (Memref.whole main_v9_scv)).view.read (Elt F) (L 2 d) z).toNat < 1000000 := fun _ => hL 2 d _
  have hG : ∀ (j : Fin 10) (x : S128x128.Idx) (k : Fin 1280), k.val = 128 * j.val + (x 0).val →
      (outSlice i (Memref.whole main_v10_scv) j).view.read (Elt F) (gathered (L 2 d) (X d)) x
        = (Memref.whole main_arg1_scv).view.read (Elt F) (X d) (ix2 ⟨((idxSlice i (Memref.whole main_v9_scv)).view.read (Elt F) (L 2 d) (ix1 k)).toNat, hl _⟩ (x 1)) :=
    fun j x z hz => gathered_at i (L 2 d) (X d) (hL 2 d) j x z hz
  exact task d i
    (Memref.whole main_v9_scv) (Memref.isWhole_whole _) (Memref.whole main_arg1_scv) (Memref.isWhole_whole _) (Memref.whole main_v10_scv) (Memref.isWhole_whole _)
    (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _)
    cc2_scratch7 cc2_scratch8 cc2_scratch9 cc2_scratch10 cc2_scratch11 cc2_scratch12 cc2_scratch13 cc2_scratch14 cc2_scratch15 cc2_scratch16 cc2_scratch17 cc2_scratch18 cc2_scoped0
    launchFacts sh (L 2 d) (X d) (O₀ 2 d) (gathered (L 2 d) (X d)) hl hG hb hs O W hO B

set_option maxRecDepth 16384 in
/-- Call 2's obligation to the launch. -/
theorem tileObl2 (hL : ∀ q d z, (L q d z).toNat < 1000000) : (K (F := F)).TileObl (D (F := F)) 𝒱 (P L X O₀) v₀ 2 := by
  intro d c i O W hO _ _
  simp only [show (P L X O₀).ox = fun _ _ => 0 from rfl, add_zero]
  have hci : ((K (F := F)).core 2 c).val < grid2.bound 0 ∧ ((K (F := F)).sub 2 i).val < grid2.bound 1 := ⟨c.isLt, i.isLt⟩
  change (_ : sProp 𝕄) ⊢ wp frame (wpE (D (F := F)) 𝒱 (V d ((K (F := F)).core 2 c) ((K (F := F)).sub 2 i)) (some v₀)) Set.univ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_call2]; simp only [SparseCore.onTile, hci, and_self, ↓reduceDIte]
  exact tileTask2 L X O₀ hL d (coordsV ⟨_, hci.1⟩ ⟨_, hci.2⟩) _ O W hO _

/-- Call 3's parts of a tile, through the tile's own views of them. -/
theorem goP_eq3 (d : Dev nD) (i : grid0.Coords) (sh : PosShare TreeShare) (fi : S40960.Idx → Elt F .i32) (fx : S1000000x128.Idx → Elt F .f32)
    (fo : S40960x128.Idx → Elt F .f32) :
    (goP d i (Memref.whole main_v11_scv) (Memref.whole main_arg1_scv) (Memref.whole main_v12_scv) sh fi fx fo : sProp 𝕄) = tileHas 3 d i sh fi fx fo := by
  have h1 : (idxSlice i (Memref.whole main_v11_scv)).view.set = iSet i := View.set_slice_whole _ _
  have h2 (j : Fin 10) : (outSlice i (Memref.whole main_v12_scv) j).view.set = oSet i j := View.set_slice_whole _ _
  unfold goP
  simp only [h1, h2]
  rfl

theorem defs₀_call3 (c : Fin τ.nSC) (s : Fin τ.nSub) :
    defs₀ (F := F) (.scVector c s) 3 ()
      = SparseCore.onTile hcore3 hsub3 (fun c s => cc3__sc_gather_kernel (coordsV c s)
          (Memref.whole main_v11_scv) (Memref.isWhole_whole _) (Memref.whole main_arg1_scv) (Memref.isWhole_whole _) (Memref.whole main_v12_scv) (Memref.isWhole_whole _)
          (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _)
          cc3_scratch7 cc3_scratch8 cc3_scratch9 cc3_scratch10 cc3_scratch11 cc3_scratch12 cc3_scratch13 cc3_scratch14 cc3_scratch15 cc3_scratch16 cc3_scratch17 cc3_scratch18 cc3_scoped0) ⟨⟩ c s := rfl

/-- Call 3's task at one tile. -/
theorem tileTask3 (hL : ∀ q d z, (L q d z).toNat < 1000000) (d : Dev nD) (i : grid0.Coords) (sh : PosShare TreeShare)
    (O : CellTallies nD τ sig (HIx 5)) (W : Waits sig (HIx 5)) (hO : ∀ g, O g none = 0) (B : HIx 5 → Prop) :
    iprop(levAts (K (F := F)).L (K (F := F)).lev ∗ emp ∗ tileHas 3 d i sh (L 3 d) (X d) (O₀ 3 d) ∗ scopedBufs (V d (cV i) (jV i)) ∗ scopedSems0 (V d (cV i) (jV i))
        ∗ owes (V d (cV i) (jV i)) O W)
      ⊢ (wp frame (wpE (defs₀ (F := F)) 𝒱₀ (V d (cV i) (jV i)) none) Set.univ
          (cc3__sc_gather_kernel i
          (Memref.whole main_v11_scv) (Memref.isWhole_whole _) (Memref.whole main_arg1_scv) (Memref.isWhole_whole _) (Memref.whole main_v12_scv) (Memref.isWhole_whole _)
          (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _)
          cc3_scratch7 cc3_scratch8 cc3_scratch9 cc3_scratch10 cc3_scratch11 cc3_scratch12 cc3_scratch13 cc3_scratch14 cc3_scratch15 cc3_scratch16 cc3_scratch17 cc3_scratch18 cc3_scoped0)
          fun _ => iprop(tileHas 3 d i sh (L 3 d) (X d) (gathered (L 3 d) (X d)) ∗ scopedBufs (V d (cV i) (jV i)) ∗ scopedSems0 (V d (cV i) (jV i))
            ∗ ∃ W', ⌜∀ p ∈ W', p ∈ W ∨ p.2 = none ∨ B p.2⌝ ∗ owes (V d (cV i) (jV i)) O W') : sProp 𝕄) := by
  have hb := ownBufs_peel (F := F) d (cV i) (jV i) ![cc3_scratch0, cc3_scratch1, cc3_scratch2, cc3_scratch3, cc3_scratch4, cc3_scratch5, cc3_scratch6] (by decide) (fun k => by fin_cases k <;> rfl)
  have hs := ownSems_peel (F := F) d (cV i) (jV i) ![.dma cc3_scratch7.sem, .dma cc3_scratch8.sem, .dma cc3_scratch9.sem, .dma cc3_scratch10.sem, .dma cc3_scratch11.sem, .dma cc3_scratch12.sem, .dma cc3_scratch13.sem, .dma cc3_scratch14.sem, .dma cc3_scratch15.sem, .dma cc3_scratch16.sem, .dma cc3_scratch17.sem, .dma cc3_scratch18.sem, .dma cc3_scoped0.sem] (by decide) (fun k => by fin_cases k <;> rfl)
  rw [sep7] at hb
  rw [sep13] at hs
  rw [cc3_eq, ← goP_eq3, ← goP_eq3]
  have hl : ∀ z, ((idxSlice i (Memref.whole main_v11_scv)).view.read (Elt F) (L 3 d) z).toNat < 1000000 := fun _ => hL 3 d _
  have hG : ∀ (j : Fin 10) (x : S128x128.Idx) (k : Fin 1280), k.val = 128 * j.val + (x 0).val →
      (outSlice i (Memref.whole main_v12_scv) j).view.read (Elt F) (gathered (L 3 d) (X d)) x
        = (Memref.whole main_arg1_scv).view.read (Elt F) (X d) (ix2 ⟨((idxSlice i (Memref.whole main_v11_scv)).view.read (Elt F) (L 3 d) (ix1 k)).toNat, hl _⟩ (x 1)) :=
    fun j x z hz => gathered_at i (L 3 d) (X d) (hL 3 d) j x z hz
  exact task d i
    (Memref.whole main_v11_scv) (Memref.isWhole_whole _) (Memref.whole main_arg1_scv) (Memref.isWhole_whole _) (Memref.whole main_v12_scv) (Memref.isWhole_whole _)
    (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _)
    cc3_scratch7 cc3_scratch8 cc3_scratch9 cc3_scratch10 cc3_scratch11 cc3_scratch12 cc3_scratch13 cc3_scratch14 cc3_scratch15 cc3_scratch16 cc3_scratch17 cc3_scratch18 cc3_scoped0
    launchFacts sh (L 3 d) (X d) (O₀ 3 d) (gathered (L 3 d) (X d)) hl hG hb hs O W hO B

set_option maxRecDepth 16384 in
/-- Call 3's obligation to the launch. -/
theorem tileObl3 (hL : ∀ q d z, (L q d z).toNat < 1000000) : (K (F := F)).TileObl (D (F := F)) 𝒱 (P L X O₀) v₀ 3 := by
  intro d c i O W hO _ _
  simp only [show (P L X O₀).ox = fun _ _ => 0 from rfl, add_zero]
  have hci : ((K (F := F)).core 3 c).val < grid3.bound 0 ∧ ((K (F := F)).sub 3 i).val < grid3.bound 1 := ⟨c.isLt, i.isLt⟩
  change (_ : sProp 𝕄) ⊢ wp frame (wpE (D (F := F)) 𝒱 (V d ((K (F := F)).core 3 c) ((K (F := F)).sub 3 i)) (some v₀)) Set.univ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_call3]; simp only [SparseCore.onTile, hci, and_self, ↓reduceDIte]
  exact tileTask3 L X O₀ hL d (coordsV ⟨_, hci.1⟩ ⟨_, hci.2⟩) _ O W hO _

/-- Call 4's parts of a tile, through the tile's own views of them. -/
theorem goP_eq4 (d : Dev nD) (i : grid0.Coords) (sh : PosShare TreeShare) (fi : S40960.Idx → Elt F .i32) (fx : S1000000x128.Idx → Elt F .f32)
    (fo : S40960x128.Idx → Elt F .f32) :
    (goP d i (Memref.whole main_v13_scv) (Memref.whole main_arg1_scv) (Memref.whole main_v14_scv) sh fi fx fo : sProp 𝕄) = tileHas 4 d i sh fi fx fo := by
  have h1 : (idxSlice i (Memref.whole main_v13_scv)).view.set = iSet i := View.set_slice_whole _ _
  have h2 (j : Fin 10) : (outSlice i (Memref.whole main_v14_scv) j).view.set = oSet i j := View.set_slice_whole _ _
  unfold goP
  simp only [h1, h2]
  rfl

theorem defs₀_call4 (c : Fin τ.nSC) (s : Fin τ.nSub) :
    defs₀ (F := F) (.scVector c s) 4 ()
      = SparseCore.onTile hcore4 hsub4 (fun c s => cc4__sc_gather_kernel (coordsV c s)
          (Memref.whole main_v13_scv) (Memref.isWhole_whole _) (Memref.whole main_arg1_scv) (Memref.isWhole_whole _) (Memref.whole main_v14_scv) (Memref.isWhole_whole _)
          (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) (Memref.whole cc4_scratch6) (Memref.isWhole_whole _)
          cc4_scratch7 cc4_scratch8 cc4_scratch9 cc4_scratch10 cc4_scratch11 cc4_scratch12 cc4_scratch13 cc4_scratch14 cc4_scratch15 cc4_scratch16 cc4_scratch17 cc4_scratch18 cc4_scoped0) ⟨⟩ c s := rfl

/-- Call 4's task at one tile. -/
theorem tileTask4 (hL : ∀ q d z, (L q d z).toNat < 1000000) (d : Dev nD) (i : grid0.Coords) (sh : PosShare TreeShare)
    (O : CellTallies nD τ sig (HIx 5)) (W : Waits sig (HIx 5)) (hO : ∀ g, O g none = 0) (B : HIx 5 → Prop) :
    iprop(levAts (K (F := F)).L (K (F := F)).lev ∗ emp ∗ tileHas 4 d i sh (L 4 d) (X d) (O₀ 4 d) ∗ scopedBufs (V d (cV i) (jV i)) ∗ scopedSems0 (V d (cV i) (jV i))
        ∗ owes (V d (cV i) (jV i)) O W)
      ⊢ (wp frame (wpE (defs₀ (F := F)) 𝒱₀ (V d (cV i) (jV i)) none) Set.univ
          (cc4__sc_gather_kernel i
          (Memref.whole main_v13_scv) (Memref.isWhole_whole _) (Memref.whole main_arg1_scv) (Memref.isWhole_whole _) (Memref.whole main_v14_scv) (Memref.isWhole_whole _)
          (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) (Memref.whole cc4_scratch6) (Memref.isWhole_whole _)
          cc4_scratch7 cc4_scratch8 cc4_scratch9 cc4_scratch10 cc4_scratch11 cc4_scratch12 cc4_scratch13 cc4_scratch14 cc4_scratch15 cc4_scratch16 cc4_scratch17 cc4_scratch18 cc4_scoped0)
          fun _ => iprop(tileHas 4 d i sh (L 4 d) (X d) (gathered (L 4 d) (X d)) ∗ scopedBufs (V d (cV i) (jV i)) ∗ scopedSems0 (V d (cV i) (jV i))
            ∗ ∃ W', ⌜∀ p ∈ W', p ∈ W ∨ p.2 = none ∨ B p.2⌝ ∗ owes (V d (cV i) (jV i)) O W') : sProp 𝕄) := by
  have hb := ownBufs_peel (F := F) d (cV i) (jV i) ![cc4_scratch0, cc4_scratch1, cc4_scratch2, cc4_scratch3, cc4_scratch4, cc4_scratch5, cc4_scratch6] (by decide) (fun k => by fin_cases k <;> rfl)
  have hs := ownSems_peel (F := F) d (cV i) (jV i) ![.dma cc4_scratch7.sem, .dma cc4_scratch8.sem, .dma cc4_scratch9.sem, .dma cc4_scratch10.sem, .dma cc4_scratch11.sem, .dma cc4_scratch12.sem, .dma cc4_scratch13.sem, .dma cc4_scratch14.sem, .dma cc4_scratch15.sem, .dma cc4_scratch16.sem, .dma cc4_scratch17.sem, .dma cc4_scratch18.sem, .dma cc4_scoped0.sem] (by decide) (fun k => by fin_cases k <;> rfl)
  rw [sep7] at hb
  rw [sep13] at hs
  rw [cc4_eq, ← goP_eq4, ← goP_eq4]
  have hl : ∀ z, ((idxSlice i (Memref.whole main_v13_scv)).view.read (Elt F) (L 4 d) z).toNat < 1000000 := fun _ => hL 4 d _
  have hG : ∀ (j : Fin 10) (x : S128x128.Idx) (k : Fin 1280), k.val = 128 * j.val + (x 0).val →
      (outSlice i (Memref.whole main_v14_scv) j).view.read (Elt F) (gathered (L 4 d) (X d)) x
        = (Memref.whole main_arg1_scv).view.read (Elt F) (X d) (ix2 ⟨((idxSlice i (Memref.whole main_v13_scv)).view.read (Elt F) (L 4 d) (ix1 k)).toNat, hl _⟩ (x 1)) :=
    fun j x z hz => gathered_at i (L 4 d) (X d) (hL 4 d) j x z hz
  exact task d i
    (Memref.whole main_v13_scv) (Memref.isWhole_whole _) (Memref.whole main_arg1_scv) (Memref.isWhole_whole _) (Memref.whole main_v14_scv) (Memref.isWhole_whole _)
    (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) (Memref.whole cc4_scratch6) (Memref.isWhole_whole _)
    cc4_scratch7 cc4_scratch8 cc4_scratch9 cc4_scratch10 cc4_scratch11 cc4_scratch12 cc4_scratch13 cc4_scratch14 cc4_scratch15 cc4_scratch16 cc4_scratch17 cc4_scratch18 cc4_scoped0
    launchFacts sh (L 4 d) (X d) (O₀ 4 d) (gathered (L 4 d) (X d)) hl hG hb hs O W hO B

set_option maxRecDepth 16384 in
/-- Call 4's obligation to the launch. -/
theorem tileObl4 (hL : ∀ q d z, (L q d z).toNat < 1000000) : (K (F := F)).TileObl (D (F := F)) 𝒱 (P L X O₀) v₀ 4 := by
  intro d c i O W hO _ _
  simp only [show (P L X O₀).ox = fun _ _ => 0 from rfl, add_zero]
  have hci : ((K (F := F)).core 4 c).val < grid4.bound 0 ∧ ((K (F := F)).sub 4 i).val < grid4.bound 1 := ⟨c.isLt, i.isLt⟩
  change (_ : sProp 𝕄) ⊢ wp frame (wpE (D (F := F)) 𝒱 (V d ((K (F := F)).core 4 c) ((K (F := F)).sub 4 i)) (some v₀)) Set.univ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  rw [defs₀_call4]; simp only [SparseCore.onTile, hci, and_self, ↓reduceDIte]
  exact tileTask4 L X O₀ hL d (coordsV ⟨_, hci.1⟩ ⟨_, hci.2⟩) _ O W hO _

end Cert.Proof.Lookup
-- ==== Proof.Calls.lean ====
/-
  A SparseCore call as the host program sees it: with the device's buffers in hand at contents `V`, the call leaves them
  at `V` but for its output, which then holds the named rows of the table.
-/
module

public import proofs.«01_k».proof.Proof.Tail
public import proofs.«01_k».proof.Proof.Obligation

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

section Buffers

/-- Three buffers apart, of the device's. -/
theorem held_three (d : Dev nD) (l t o : DevRef τ sig) (hl : l ∈ Pipeline.ucRefs τ sig) (ht : t ∈ Pipeline.ucRefs τ sig)
    (ho : o ∈ Pipeline.ucRefs τ sig) (hlt : l ≠ t) (hlo : l ≠ o) (hto : t ≠ o) (V : Valuation τ sig (Elt F)) :
    (heldAll d V : sProp 𝕄) = iprop((((d, l) ↦{fullShare} V l) ∗ ((d, t) ↦{fullShare} V t) ∗ ((d, o) ↦{fullShare} V o))
      ∗ StableHlo.held (T d) (Pipeline.ucRefs τ sig \ {l, t, o}) V) := by
  unfold heldAll
  rw [StableHlo.held_sub_split (T d) (T := {l, t, o}) (by
    intro b hb
    simp only [Finset.mem_insert, Finset.mem_singleton] at hb
    rcases hb with rfl | rfl | rfl <;> assumption)]
  congr 1
  unfold StableHlo.held
  rw [SparseCore.bigSep_insert' (by simp [hlt, hlo]), SparseCore.bigSep_insert' (by simp [hto]), bigSep_singleton]

/-- The same with the third at other contents. -/
theorem held_three_set (d : Dev nD) (l t o : DevRef τ sig) (hl : l ∈ Pipeline.ucRefs τ sig) (ht : t ∈ Pipeline.ucRefs τ sig)
    (ho : o ∈ Pipeline.ucRefs τ sig) (hlt : l ≠ t) (hlo : l ≠ o) (hto : t ≠ o) (V : Valuation τ sig (Elt F)) (g : o.ty.Contents (Elt F)) :
    (heldAll d (Function.update V o g) : sProp 𝕄) = iprop((((d, l) ↦{fullShare} V l) ∗ ((d, t) ↦{fullShare} V t) ∗ ((d, o) ↦{fullShare} g))
      ∗ StableHlo.held (T d) (Pipeline.ucRefs τ sig \ {l, t, o}) V) := by
  rw [held_three d l t o hl ht ho hlt hlo hto, Function.update_of_ne hlo, Function.update_of_ne hto, Function.update_self]
  congr 1
  refine StableHlo.held_congr (T d) fun b hb => Function.update_of_ne ?_ _ _
  rintro rfl
  exact (Finset.mem_sdiff.mp hb).2 (by simp)

end Buffers

/-- A buffer of the host program's, named on the device. -/
abbrev onTcRef (r : Ref sig .tc) : DevRef τ sig := Proc.devRef (τ := τ) .tc r

/-- The list call `q` reads, out of the contents of all buffers. -/
def listOf (V : Valuation τ sig (Elt F)) : Fin 5 → S40960.Idx → Elt F .i32
  | 0 => V (onTcRef main_v5)
  | 1 => V (onTcRef main_v7)
  | 2 => V (onTcRef main_v9)
  | 3 => V (onTcRef main_v11)
  | 4 => V (onTcRef main_v13)
/-- The output of call `q`. -/
def outOf (V : Valuation τ sig (Elt F)) : Fin 5 → S40960x128.Idx → Elt F .f32
  | 0 => V (onTcRef main_v6)
  | 1 => V (onTcRef main_v8)
  | 2 => V (onTcRef main_v10)
  | 3 => V (onTcRef main_v12)
  | 4 => V (onTcRef main_v14)
/-- The table. -/
def tabOf (V : Valuation τ sig (Elt F)) : S1000000x128.Idx → Elt F .f32 := V (onTcRef main_arg1)
/-- All buffers with the output of call `q` set to `g`. -/
def setOut (V : Valuation τ sig (Elt F)) (g : S40960x128.Idx → Elt F .f32) : Fin 5 → Valuation τ sig (Elt F)
  | 0 => Function.update V (onTcRef main_v6) g
  | 1 => Function.update V (onTcRef main_v8) g
  | 2 => Function.update V (onTcRef main_v10) g
  | 3 => Function.update V (onTcRef main_v12) g
  | 4 => Function.update V (onTcRef main_v14) g

/-- The other buffers while call `q` has its three. -/
def othersOf (V : Valuation τ sig (Elt F)) (d : Dev nD) : Fin 5 → sProp 𝕄
  | 0 => StableHlo.held (T d) (Pipeline.ucRefs τ sig \ {onTcRef main_v5, onTcRef main_arg1, onTcRef main_v6}) V
  | 1 => StableHlo.held (T d) (Pipeline.ucRefs τ sig \ {onTcRef main_v7, onTcRef main_arg1, onTcRef main_v8}) V
  | 2 => StableHlo.held (T d) (Pipeline.ucRefs τ sig \ {onTcRef main_v9, onTcRef main_arg1, onTcRef main_v10}) V
  | 3 => StableHlo.held (T d) (Pipeline.ucRefs τ sig \ {onTcRef main_v11, onTcRef main_arg1, onTcRef main_v12}) V
  | 4 => StableHlo.held (T d) (Pipeline.ucRefs τ sig \ {onTcRef main_v13, onTcRef main_arg1, onTcRef main_v14}) V

/-- The three buffers of call `q` out of all. -/
theorem held_call (V : Valuation τ sig (Elt F)) (d : Dev nD) (q : Fin 5) :
    (heldAll d V : sProp 𝕄) = iprop(wholeHas q d (listOf V q) (tabOf V) (outOf V q) ∗ othersOf V d q) := by
  match q with
  | 0 => exact held_three d (onTcRef main_v5) (onTcRef main_arg1) (onTcRef main_v6) (by decide) (by decide) (by decide) (by decide) (by decide) (by decide) V
  | 1 => exact held_three d (onTcRef main_v7) (onTcRef main_arg1) (onTcRef main_v8) (by decide) (by decide) (by decide) (by decide) (by decide) (by decide) V
  | 2 => exact held_three d (onTcRef main_v9) (onTcRef main_arg1) (onTcRef main_v10) (by decide) (by decide) (by decide) (by decide) (by decide) (by decide) V
  | 3 => exact held_three d (onTcRef main_v11) (onTcRef main_arg1) (onTcRef main_v12) (by decide) (by decide) (by decide) (by decide) (by decide) (by decide) V
  | 4 => exact held_three d (onTcRef main_v13) (onTcRef main_arg1) (onTcRef main_v14) (by decide) (by decide) (by decide) (by decide) (by decide) (by decide) V
/-- The same once the output is set. -/
theorem held_call_set (V : Valuation τ sig (Elt F)) (d : Dev nD) (q : Fin 5) (g : S40960x128.Idx → Elt F .f32) :
    (heldAll d (setOut V g q) : sProp 𝕄) = iprop(wholeHas q d (listOf V q) (tabOf V) g ∗ othersOf V d q) := by
  match q with
  | 0 => exact held_three_set d (onTcRef main_v5) (onTcRef main_arg1) (onTcRef main_v6) (by decide) (by decide) (by decide) (by decide) (by decide) (by decide) V g
  | 1 => exact held_three_set d (onTcRef main_v7) (onTcRef main_arg1) (onTcRef main_v8) (by decide) (by decide) (by decide) (by decide) (by decide) (by decide) V g
  | 2 => exact held_three_set d (onTcRef main_v9) (onTcRef main_arg1) (onTcRef main_v10) (by decide) (by decide) (by decide) (by decide) (by decide) (by decide) V g
  | 3 => exact held_three_set d (onTcRef main_v11) (onTcRef main_arg1) (onTcRef main_v12) (by decide) (by decide) (by decide) (by decide) (by decide) (by decide) V g
  | 4 => exact held_three_set d (onTcRef main_v13) (onTcRef main_arg1) (onTcRef main_v14) (by decide) (by decide) (by decide) (by decide) (by decide) (by decide) V g

variable (L : Fin 5 → Dev nD → S40960.Idx → Elt F .i32) (X : Dev nD → S1000000x128.Idx → Elt F .f32) (O₀ : Fin 5 → Dev nD → S40960x128.Idx → Elt F .f32)

/-- What all buffers hold after call `q`. -/
def afterCall (V : Valuation τ sig (Elt F)) (q : Fin 5) : Valuation τ sig (Elt F) := setOut V (gathered (listOf V q) (tabOf V)) q

/-- Call `q` from buffers at `V`. -/
theorem wp_call (κ : GSem nD τ sig → ℕ) (d : Dev nD) (q : Fin 5) (V : Valuation τ sig (Elt F)) (hl : L q d = listOf V q) (hx : X d = tabOf V)
    (ho : O₀ q d = outOf V q) (Φ : PUnit → sProp 𝕄) :
    iprop((K (F := F)).ctx EH (P L X O₀) κ ∗ (K (F := F)).tcSt EH d q.val ∗ heldAll d V
        ∗ (((K (F := F)).tcSt EH d (q.val + 1) ∗ heldAll d (afterCall V q)) -∗ Φ ⟨⟩))
      ⊢ wp frame (wpE ((K (F := F)).defs (D (F := F))) 𝒱 (T d) none) Set.univ ((K (F := F)).run d q) Φ := by
  have hst : (bigSep Finset.univ fun c : Fin ((K (F := F)).nCore q) => (P L X O₀).st q d c : sProp 𝕄) = wholeHas q d (listOf V q) (tabOf V) (outOf V q) := by
    rw [← hl, ← hx, ← ho]; exact coreParts_eq L X q d (O₀ q d)
  have hdn : (bigSep Finset.univ fun c : Fin ((K (F := F)).nCore q) => (P L X O₀).dn q d c : sProp 𝕄)
      = wholeHas q d (listOf V q) (tabOf V) (gathered (listOf V q) (tabOf V)) := by
    rw [← hl, ← hx]; exact coreParts_eq L X q d (gathered (L q d) (X d))
  unfold afterCall
  rw [held_call V d q, held_call_set V d q]
  iintro ⟨#Hctx, Hst, ⟨Hw, Ho⟩, Hk⟩
  iapply ((K (F := F)).wp_run (D (F := F)) 𝒱 (EH := EH) (P := P L X O₀) κ d q) $$ [Hst Hw Ho Hk]
  isplitr; · iexact Hctx
  isplitl [Hst]; · iexact Hst
  isplitl [Hw]; · rw [hst]; iexact Hw
  iintro ⟨Hst, Hdn⟩
  ihave Hdn' := (Entails.of_eq hdn) $$ Hdn
  iapply Hk
  isplitl [Hst]; · iexact Hst
  isplitl [Hdn']; · iexact Hdn'
  iexact Ho

end Cert.Proof.Lookup
-- ==== Proof.Main.lean ====
/-
  The host program from the launch to the last SparseCore call: the operations on the arguments, and per call the constant
  and the slice that make its list of rows. From the launch's contents to what the TensorCore calls find.
-/
module

public import proofs.«01_k».proof.Proof.Calls

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-! ## The host's operations -/

/-- The indices column by column in one line, the first weights transposed, the biases as a row and as a column. -/
def argOps : List (HloOp τ sig (Elt F)) :=
  [StableHlo.unary main_arg0 main_v0 ((transpose S200x1024 [1, 0] · transposes_S1024x200_S200x1024_1_0) :
      (⟨S1024x200, .i32⟩ : BufTy).Contents (Elt F) → (⟨S200x1024, .i32⟩ : BufTy).Contents (Elt F)),
    StableHlo.reshape main_v0 main_v1 (rfl : (.i32 : EltTy) = .i32) shapeCasts_S200x1024_S204800,
    StableHlo.unary main_arg2 main_v2 ((transpose S128x128 [1, 0] · transposes_S128x128_S128x128_1_0) :
      (⟨S128x128, .f32⟩ : BufTy).Contents (Elt F) → (⟨S128x128, .f32⟩ : BufTy).Contents (Elt F)),
    StableHlo.reshape main_arg3 main_v3 (rfl : (.f32 : EltTy) = .f32) shapeCasts_S128_S1x128,
    StableHlo.reshape main_arg5 main_v4 (rfl : (.f32 : EltTy) = .f32) shapeCasts_S45_S45x1]

/-- The stretch of the line of indices from the entry that `c` holds on. -/
def stretch : (⟨S204800, .i32⟩ : BufTy).Contents (Elt F) → (Fin 1 → (⟨S_, .i32⟩ : BufTy).Contents (Elt F)) → (⟨S40960, .i32⟩ : BufTy).Contents (Elt F) :=
  fun x i => Host.dynamicSlice S40960 x (fun k => (i k (Shape.Idx.first h_S_)).toInt) sliceFits_S204800_S40960

/-- The list of call 0. -/
def listOps0 : List (HloOp τ sig (Elt F)) :=
  [StableHlo.nullary main_c (constantI S_ 32 0#32), StableHlo.unaryIndexed main_v1 ![main_c] ⟨S_, .i32⟩ main_v5 stretch]
/-- The list of call 1. -/
def listOps1 : List (HloOp τ sig (Elt F)) :=
  [StableHlo.nullary main_c_0 (constantI S_ 32 40960#32), StableHlo.unaryIndexed main_v1 ![main_c_0] ⟨S_, .i32⟩ main_v7 stretch]
/-- The list of call 2. -/
def listOps2 : List (HloOp τ sig (Elt F)) :=
  [StableHlo.nullary main_c_1 (constantI S_ 32 81920#32), StableHlo.unaryIndexed main_v1 ![main_c_1] ⟨S_, .i32⟩ main_v9 stretch]
/-- The list of call 3. -/
def listOps3 : List (HloOp τ sig (Elt F)) :=
  [StableHlo.nullary main_c_2 (constantI S_ 32 122880#32), StableHlo.unaryIndexed main_v1 ![main_c_2] ⟨S_, .i32⟩ main_v11 stretch]
/-- The list of call 4. -/
def listOps4 : List (HloOp τ sig (Elt F)) :=
  [StableHlo.nullary main_c_3 (constantI S_ 32 163840#32), StableHlo.unaryIndexed main_v1 ![main_c_3] ⟨S_, .i32⟩ main_v13 stretch]

/-! ## The contents of a device's buffers along the way -/

variable (m : (ℓ : Loc nD τ sig) → Buf (Elt F) ℓ) (g : Dev nD → PrngReg)

/-- After the operations on the arguments. -/
def prepared (d : Dev nD) : Valuation τ sig (Elt F) := StableHlo.after argOps (StableHlo.launchContents m d)
/-- What call 0 finds. -/
def listed0 (d : Dev nD) : Valuation τ sig (Elt F) := StableHlo.after listOps0 (prepared m d)
/-- What call 1 finds. -/
def listed1 (d : Dev nD) : Valuation τ sig (Elt F) := StableHlo.after listOps1 (afterCall (listed0 m d) 0)
/-- What call 2 finds. -/
def listed2 (d : Dev nD) : Valuation τ sig (Elt F) := StableHlo.after listOps2 (afterCall (listed1 m d) 1)
/-- What call 3 finds. -/
def listed3 (d : Dev nD) : Valuation τ sig (Elt F) := StableHlo.after listOps3 (afterCall (listed2 m d) 2)
/-- What call 4 finds. -/
def listed4 (d : Dev nD) : Valuation τ sig (Elt F) := StableHlo.after listOps4 (afterCall (listed3 m d) 3)
/-- What call `q` finds. -/
def listed (d : Dev nD) : Fin 5 → Valuation τ sig (Elt F)
  | 0 => listed0 m d
  | 1 => listed1 m d
  | 2 => listed2 m d
  | 3 => listed3 m d
  | 4 => listed4 m d
/-- What the fifth call leaves. -/
def looked (d : Dev nD) : Valuation τ sig (Elt F) := afterCall (listed4 m d) 4

/-- The lists, the table and the outputs' first contents, as the calls find them. -/
abbrev lists (q : Fin 5) (d : Dev nD) : S40960.Idx → Elt F .i32 := listOf (listed m d q) q
abbrev table (d : Dev nD) : S1000000x128.Idx → Elt F .f32 := m (tabLoc d)
abbrev outs (q : Fin 5) (d : Dev nD) : S40960x128.Idx → Elt F .f32 := outOf (listed m d q) q

/-- No operation writes the table, so each call finds it as launched. -/
theorem table_kept (d : Dev nD) (q : Fin 5) : table m d = tabOf (listed m d q) := by
  match q with
  | 0 => rfl
  | 1 => rfl
  | 2 => rfl
  | 3 => rfl
  | 4 => rfl

end Cert.Proof.Lookup
-- ==== Proof.Run.lean ====
/-
  The whole program's run: the launch's threads, the host program's proof on each TensorCore, and what the final memory holds.
-/
module

public import proofs.«01_k».proof.Proof.Main

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (m : (ℓ : Loc nD τ sig) → Buf (Elt F) ℓ) (g : Dev nD → PrngReg)

/-- The level the TensorCore's waits stay under once the last SparseCore call has returned. -/
abbrev topLev : ℕ := 8 * 5

set_option maxRecDepth 65536 in
/-- The host program, its operations grouped: those on the arguments, the five lists each with its call, the tail. -/
theorem main_eq (d : Dev nD) : main (F := F) d = (StableHlo.seq argOps >>= fun _ =>
    StableHlo.seq listOps0 >>= fun _ => (K (F := F)).run d 0 >>= fun _ =>
    StableHlo.seq listOps1 >>= fun _ => (K (F := F)).run d 1 >>= fun _ =>
    StableHlo.seq listOps2 >>= fun _ => (K (F := F)).run d 2 >>= fun _ =>
    StableHlo.seq listOps3 >>= fun _ => (K (F := F)).run d 3 >>= fun _ =>
    StableHlo.seq listOps4 >>= fun _ => (K (F := F)).run d 4 >>= fun _ =>
    SparseCore.liftProg (Seg.run (tailSegs topLev (looked m)))) := rfl

/-- A call with the operations before it that make its list. -/
theorem wp_listed (κ : GSem nD τ sig → ℕ) (d : Dev nD) (q : Fin 5) (ops : List (HloOp τ sig (Elt F)))
    (hS : ∀ op ∈ ops, op.bufs ⊆ Pipeline.ucRefs τ sig) (hf : ∀ op ∈ ops, op.fresh = ∅) (V : Valuation τ sig (Elt F))
    (hV : StableHlo.after ops V = listed m d q)
    (k : Prog (TpuEff nD τ sig (Elt F) (SparseCore.Sig (ΛP (F := F)) 5) .tc) PUnit) (Φ : PUnit → sProp 𝕄) :
    iprop((K (F := F)).ctx EH (P (lists m) (table m) (outs m)) κ ∗ boundary (T d) ∗ (K (F := F)).tcSt EH d q.val ∗ heldAll d V
        ∗ ((boundary (T d) ∗ (K (F := F)).tcSt EH d (q.val + 1) ∗ heldAll d (afterCall (listed m d q) q))
            -∗ wp frame (wpE ((K (F := F)).defs (D (F := F))) 𝒱 (T d) none) Set.univ k Φ))
      ⊢ wp frame (wpE ((K (F := F)).defs (D (F := F))) 𝒱 (T d) none) Set.univ
          (StableHlo.seq ops >>= fun _ => (K (F := F)).run d q >>= fun _ => k) Φ := by
  iintro ⟨#Hctx, Hb, Hst, Hh, Hk⟩
  iapply (StableHlo.wp_seq (defs := (K (F := F)).defs (D (F := F))) 𝒱 none Set.univ d (Pipeline.ucRefs τ sig)
    (fun _ => (K (F := F)).run d q >>= fun _ => k) (K := Φ) ops hS hf V) $$ [Hb Hh]
  · isplitl [Hb]; · iexact Hb
    iexact Hh
  rw [hV, wp_bind]
  iintro ⟨Hb, Hh⟩
  iapply (wp_call (lists m) (table m) (outs m) κ d q (listed m d q) rfl (table_kept m d q) rfl) $$ [Hb Hst Hh Hk]
  isplitr; · iexact Hctx
  isplitl [Hst]; · iexact Hst
  isplitl [Hh]; · iexact Hh
  iintro ⟨Hst, Hh⟩
  iapply Hk
  isplitl [Hb]; · iexact Hb
  isplitl [Hst]; · iexact Hst
  iexact Hh

/-- Operations of a list whose buffers are the TensorCore's touch those that outlive a call only. -/
theorem bufs_within {ops : List (HloOp τ sig (Elt F))} (h : ops.Forall fun op => op.bufs ⊆ StableHlo.tcRefs τ sig) :
    ∀ op ∈ ops, op.bufs ⊆ Pipeline.ucRefs τ sig := fun op ho => Pipeline.sub_ucRefs op (List.forall_iff_forall_mem.mp h op ho)

theorem argOps_within : ∀ op ∈ argOps (F := F), op.bufs ⊆ Pipeline.ucRefs τ sig :=
  bufs_within ⟨StableHlo.unary_bufs_sub .., StableHlo.reshape_bufs_sub .., StableHlo.unary_bufs_sub .., StableHlo.reshape_bufs_sub .., StableHlo.reshape_bufs_sub ..⟩
theorem argOps_fresh : ∀ op ∈ argOps (F := F), op.fresh = ∅ := by
  intro _ h; (repeat (cases h with | head => rfl | tail _ h => ?_)); exact nomatch h

/-- What a device ends with. -/
abbrev ended (d : Dev nD) : Valuation τ sig (Elt F) := atEnd topLev (looked m) d

/-- The buffers a launch hands the host program. -/
theorem launched (d : Dev nD) : (unscopedBufs d (fun b => m ((SparseCore.T d).loc b)) : sProp 𝕄) = heldAll d (StableHlo.launchContents m d) :=
  Pipeline.unscopedBufs_held (Ix := HIx 5) (Name := ℕ) (U := UU) (Lvl := ℕ) d (fun b => m (d, b))

/-- The host program's proof. -/
theorem hmain (κ : GSem nD τ sig → ℕ) (d : Dev nD) :
    iprop((K (F := F)).ctx EH (P (lists m) (table m) (outs m)) κ ∗ (K (F := F)).tcSt EH d 0 ∗ (K (F := F)).tcRes m g d
        ∗ Pipeline.ghostOn (pcfgs (F := F)) adm (EP (F := F)) Finset.univ d)
      ⊢ wp frame (wpE ((K (F := F)).defs (D (F := F))) 𝒱 (T d) none) Set.univ (main d)
          fun _ => iprop((K (F := F)).tcSt EH d 5 ∗ heldAll d (ended m d) ∗ (K (F := F)).tcEnd d) := by
  unfold SparseCore.Cfg.tcRes SparseCore.Cfg.tcEnd
  rw [launched m d, main_eq m d]
  iintro ⟨#Hctx, Hst, ⟨Hb, Hh, Hts, Hp⟩, Hg⟩
  iapply (StableHlo.wp_seq (defs := (K (F := F)).defs (D (F := F))) 𝒱 none Set.univ d (Pipeline.ucRefs τ sig)
    _ (K := fun _ => iprop((K (F := F)).tcSt EH d 5 ∗ heldAll d (ended m d) ∗ boundary (T d) ∗ (K (F := F)).tcSems0 d)) argOps
    argOps_within argOps_fresh (StableHlo.launchContents m d)) $$ [Hb Hh]
  · isplitl [Hb]; · iexact Hb
    iexact Hh
  iintro ⟨Hb, Hh⟩
  iapply (wp_listed m κ d 0 listOps0 (bufs_within ⟨StableHlo.nullary_bufs_sub .., StableHlo.unaryIndexed_bufs_sub ..⟩)
    (by intro _ h; (repeat (cases h with | head => rfl | tail _ h => ?_)); exact nomatch h) _ rfl) $$ [Hb Hst Hh Hts Hp Hg]
  isplitr; · iexact Hctx
  isplitl [Hb]; · iexact Hb
  isplitl [Hst]; · iexact Hst
  isplitl [Hh]; · iexact Hh
  iintro ⟨Hb, Hst, Hh⟩
  iapply (wp_listed m κ d 1 listOps1 (bufs_within ⟨StableHlo.nullary_bufs_sub .., StableHlo.unaryIndexed_bufs_sub ..⟩)
    (by intro _ h; (repeat (cases h with | head => rfl | tail _ h => ?_)); exact nomatch h) _ rfl) $$ [Hb Hst Hh Hts Hp Hg]
  isplitr; · iexact Hctx
  isplitl [Hb]; · iexact Hb
  isplitl [Hst]; · iexact Hst
  isplitl [Hh]; · iexact Hh
  iintro ⟨Hb, Hst, Hh⟩
  iapply (wp_listed m κ d 2 listOps2 (bufs_within ⟨StableHlo.nullary_bufs_sub .., StableHlo.unaryIndexed_bufs_sub ..⟩)
    (by intro _ h; (repeat (cases h with | head => rfl | tail _ h => ?_)); exact nomatch h) _ rfl) $$ [Hb Hst Hh Hts Hp Hg]
  isplitr; · iexact Hctx
  isplitl [Hb]; · iexact Hb
  isplitl [Hst]; · iexact Hst
  isplitl [Hh]; · iexact Hh
  iintro ⟨Hb, Hst, Hh⟩
  iapply (wp_listed m κ d 3 listOps3 (bufs_within ⟨StableHlo.nullary_bufs_sub .., StableHlo.unaryIndexed_bufs_sub ..⟩)
    (by intro _ h; (repeat (cases h with | head => rfl | tail _ h => ?_)); exact nomatch h) _ rfl) $$ [Hb Hst Hh Hts Hp Hg]
  isplitr; · iexact Hctx
  isplitl [Hb]; · iexact Hb
  isplitl [Hst]; · iexact Hst
  isplitl [Hh]; · iexact Hh
  iintro ⟨Hb, Hst, Hh⟩
  iapply (wp_listed m κ d 4 listOps4 (bufs_within ⟨StableHlo.nullary_bufs_sub .., StableHlo.unaryIndexed_bufs_sub ..⟩)
    (by intro _ h; (repeat (cases h with | head => rfl | tail _ h => ?_)); exact nomatch h) _ rfl) $$ [Hb Hst Hh Hts Hp Hg]
  isplitr; · iexact Hctx
  isplitl [Hb]; · iexact Hb
  isplitl [Hst]; · iexact Hst
  isplitl [Hh]; · iexact Hh
  iintro ⟨Hb, Hst, Hh⟩
  ihave Hla := ((K (F := F)).ctx_levAts κ (EH := EH) (P := P (lists m) (table m) (outs m))) $$ Hctx
  unfold SparseCore.Cfg.tcSt
  icases Hst with ⟨⟨%W, %hW, HO⟩, Hrest⟩
  rw [(K (F := F)).Otc_end d le_rfl, show (K (F := F)).Otc d ((4 : Fin 5).val + 1) = (0 : CellTallies nD τ sig (HIx 5)) from (K (F := F)).Otc_end d (by decide)]
  iapply (tail_wp topLev (looked m) d) $$ [Hb Hh Hts Hp Hg Hla HO Hrest]
  isplitl [Hts Hrest]
  · iintro ⟨Hb, Hh, Hr⟩
    unfold tcRest
    icases Hr with ⟨-, Ho⟩
    isplitl [Ho Hrest]
    · isplitl [Ho]; · iexact Ho
      iexact Hrest
    isplitl [Hh]; · iexact Hh
    isplitl [Hb] <;> iassumption
  isplitl [Hb]; · iexact Hb
  isplitl [Hh Hp HO]
  · isplitl [Hh]; · iexact Hh
    unfold tcRest
    isplitl [Hp]; · iexists _; iexact Hp
    iexists W
    isplitr; · ipureintro; exact hW
    iexact HO
  isplitl [Hla]; · iexact Hla
  iexact Hg

/-! ## The launch -/

/-- The ghost state the launch funds: the handshakes' rounds and the pipelines'. -/
def u₀ : UU :=
  (initOf (K (F := F)).hsCells (K (F := F)).hsToks,
    (initOf (Pipeline.cells (Pipeline.pin (pcfgs (F := F)) adm) pipes_inj) (Pipeline.launchToks (Pipeline.pin (pcfgs (F := F)) adm) pipes_inj), 1))

theorem hu₀ : (ownU (u₀ (F := F)) : sProp 𝕄)
    ⊢ |={Set.univ}=> iprop(BI.own (EH (initOf (K (F := F)).hsCells (K (F := F)).hsToks))
        ∗ (bigSep Finset.univ fun d : Dev nD => Pipeline.ghostOn (pcfgs (F := F)) adm (EP (F := F)) Finset.univ d)
        ∗ bigSep Finset.univ fun thr : Thread nD τ => bigSep Finset.univ fun q : Fin 5 => (P (lists m) (table m) (outs m)).x q thr) := by
  have hx : (bigSep Finset.univ fun thr : Thread nD τ => bigSep Finset.univ fun q : Fin 5 => (P (lists m) (table m) (outs m)).x q thr : sProp 𝕄) = iprop(emp) := by
    rw [show (bigSep Finset.univ fun thr : Thread nD τ => bigSep Finset.univ fun q : Fin 5 => (P (lists m) (table m) (outs m)).x q thr : sProp 𝕄)
      = bigSep Finset.univ fun _ : Thread nD τ => bigSep Finset.univ fun _ : Fin 5 => iprop(emp) from rfl]
    rw [show (fun _ : Thread nD τ => (bigSep Finset.univ fun _ : Fin 5 => iprop(emp) : sProp 𝕄)) = fun _ => iprop(emp) from
      funext fun _ => bigSep_emp_const _]
    exact bigSep_emp_const _
  have hg : ∀ d : Dev nD, (Pipeline.ghostOn (pcfgs (F := F)) adm (EP (F := F)) Finset.univ d : sProp 𝕄)
      = iprop((bigSep Finset.univ fun p => Pipeline.cellsGhost (Pipeline.pin (pcfgs (F := F)) adm) (EP (F := F)) p d)
        ∗ (bigSep Finset.univ fun p => Pipeline.toksInit (Pipeline.pin (pcfgs (F := F)) adm) (EP (F := F)) p d)) := fun d => bigSep_sep' _ _ _
  rw [hx]
  unfold u₀
  iintro Hu
  ihave H := (ownU_pair (initOf (K (F := F)).hsCells (K (F := F)).hsToks)
    ((initOf (Pipeline.cells (Pipeline.pin (pcfgs (F := F)) adm) pipes_inj) (Pipeline.launchToks (Pipeline.pin (pcfgs (F := F)) adm) pipes_inj), (1 : Counters)))) $$ Hu
  icases H with ⟨HH, HP⟩
  ihave HP' := (own_pair_emb (embR : Emb (URounds (GSem nD τ sig) Unit × Counters) 𝕄)
    (initOf (Pipeline.cells (Pipeline.pin (pcfgs (F := F)) adm) pipes_inj) (Pipeline.launchToks (Pipeline.pin (pcfgs (F := F)) adm) pipes_inj)) (1 : Counters)) $$ HP
  icases HP' with ⟨HP, -⟩
  ihave HP := (Entails.of_eq (show (BI.own (((Emb.inl : Emb (URounds (GSem nD τ sig) Unit) (URounds (GSem nD τ sig) Unit × Counters)).trans embR)
    (initOf (Pipeline.cells (Pipeline.pin (pcfgs (F := F)) adm) pipes_inj) (Pipeline.launchToks (Pipeline.pin (pcfgs (F := F)) adm) pipes_inj))) : sProp 𝕄)
    = BI.own ((EP (F := F)) (initOf (Pipeline.cells (Pipeline.pin (pcfgs (F := F)) adm) pipes_inj) (Pipeline.launchToks (Pipeline.pin (pcfgs (F := F)) adm) pipes_inj))) from rfl)) $$ HP
  imod (Pipeline.fund_ghost (Pipeline.pin (pcfgs (F := F)) adm) (EP (F := F)) pipes_inj) $$ HP with ⟨Hc, Ht⟩
  imodintro
  isplitl [HH]; · iexact HH
  isplitl [Hc Ht]
  · rw [bigSep_congr fun d _ => hg d, bigSep_sep']
    isplitl [Hc]; · iexact Hc
    iexact Ht
  iempintro

/-- What a device's final memory holds. -/
def fq (d : Dev nD) (s' : Phys nD τ sig (Elt F)) : Prop := ∀ b ∈ Pipeline.ucRefs τ sig, s'.mem.mem (d, b) = ended m d b

theorem hfin (d : Dev nD) (s' : Phys nD τ sig (Elt F)) : iprop(heldAll d (ended m d) ∗ SI s') ⊢ (⌜fq m d s'⌝ : sProp 𝕄) :=
  (pointsTo_read_all (Pipeline.ucRefs τ sig) (fun b => (d, b)) (ended m d) s').trans sep_elim_left

/-- What a run of the program ends in: each device's buffers at `ended`, every semaphore at zero. -/
def Ends : PUnit × MemSt nD τ sig (Elt F) → Prop := fun r => (∀ d : Dev nD, ∀ b ∈ Pipeline.ucRefs τ sig, r.2.mem (d, b) = ended m d b) ∧ r.2.sem = fun _ => 0

/-- The program from any memory whose lists name rows of the table. -/
theorem run_main [∀ e, Nonempty (Elt F e)] (hL : ∀ q d z, (lists m q d z).toNat < 1000000) :
    θ_run (defs (F := F)) (threads (F := F)) ⟨m, fun _ => 0, g⟩ (Ends m) :=
  SparseCore.Cfg.θ_run_sc_quiescent (K := K (F := F)) (D := D (F := F)) (𝒱 := 𝒱) (EH := EH) (P := P (lists m) (table m) (outs m)) (A := ∅) launchFacts v₀
    (fun q hq => match q with | 0 => nomatch hq | 1 => nomatch hq | 2 => nomatch hq | 3 => nomatch hq | 4 => nomatch hq)
    (fun q _ => match q with
      | 0 => tileObl0 _ _ _ hL | 1 => tileObl1 _ _ _ hL | 2 => tileObl2 _ _ _ hL | 3 => tileObl3 _ _ _ hL | 4 => tileObl4 _ _ _ hL)
    (fun q _ => SparseCore.Cfg.VecSplit.of_plain (vecSplit (lists m) (table m) (outs m) q))
    m g main (fun d => Pipeline.ghostOn (pcfgs (F := F)) adm (EP (F := F)) Finset.univ d) (fun d => heldAll d (ended m d)) (u₀ (F := F))
    (sep_elim_left.trans (hu₀ m)) (hmain m g) (fq m) (hfin m) (Ends m) (fun _ h hz => ⟨h, hz⟩)

end Cert.Proof.Lookup
-- ==== Proof.Lists.lean ====
/-
  The lists of rows the calls read, in terms of the argument: call `q`'s list at `z` is the index at row `z % 1024`, column
  `40 q + z / 1024`. So a precondition on the argument bounds every entry of every list.
-/
module

public import proofs.«01_k».proof.Proof.Run
public import Idealize.ShloMosaic.Lib.DynamicIndex
public import Idealize.ShloMosaic.Lib.StableHlo.RunRead
public import Idealize.ShloMosaic.Lib.Pipeline.Value

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- The indices column by column in one line. -/
def line (x : S1024x200.Idx → Elt F .i32) : (⟨S204800, .i32⟩ : BufTy).Contents (Elt F) :=
  shapeCast S204800 (transpose S200x1024 [1, 0] x transposes_S1024x200_S200x1024_1_0) shapeCasts_S200x1024_S204800

/-- The line at an entry: the index of the column and row it stands for. -/
theorem line_apply (x : S1024x200.Idx → Elt F .i32) (n : Fin 204800) :
    line x (ix1 n) = x (ix2 (⟨n.val % 1024, Nat.mod_lt _ (by decide)⟩ : Fin 1024) (⟨n.val / 1024, by have := n.isLt; omega⟩ : Fin 200)) := by
  unfold line
  refine (shapeCast_apply _ shapeCasts_S200x1024_S204800 (ix1 n)
    (ix2 (⟨n.val / 1024, by have := n.isLt; omega⟩ : Fin 200) (⟨n.val % 1024, Nat.mod_lt _ (by decide)⟩ : Fin 1024)) (by
      rw [Shape.rowMajor_val_two, Shape.rowMajor_val_one]; show n.val / 1024 * 1024 + n.val % 1024 = n.val; omega)).trans ?_
  refine transpose_apply _ x transposes_S1024x200_S200x1024_1_0 _ _ fun b => ?_
  match b with
  | 0 => rfl
  | 1 => rfl

/-- A stretch at an entry, its start a constant inside the line. -/
theorem stretch_apply (x : S204800.Idx → Elt F .i32) (w : BitVec 32) (s : ℕ) (hw : w.toInt = s) (hs : s + 40960 ≤ 204800) (z : Fin 40960) :
    stretch x (fun _ => constantI S_ 32 w) (ix1 z) = x (ix1 (⟨s + z.val, by have := z.isLt; omega⟩ : Fin 204800)) := by
  have hsl : S204800.Slices (fun _ => s) S40960 := ⟨rfl, fun a => by match a with | 0 => exact hs⟩
  refine (congrFun (Host.dynamicSlice_eq_extractStridedSlice S40960 x _ (fun _ => s) sliceFits_S204800_S40960 hsl (fun _ => hw)) (ix1 z)).trans ?_
  refine extractStridedSlice_apply _ x hsl (ix1 z) _ fun a => ?_
  match a with
  | 0 => rfl

variable (m : (ℓ : Loc nD τ sig) → Buf (Elt F) ℓ)

/-- The argument of indices. -/
abbrev argX (d : Dev nD) : S1024x200.Idx → Elt F .i32 := m ((SparseCore.T d).loc main_arg0)

/-- The line as the host program makes it. -/
theorem prepared_line (d : Dev nD) : prepared m d (onTcRef main_v1) = line (argX m d) := by
  unfold prepared argOps
  after_results
  rfl

theorem afterCall0_ne (V : Valuation τ sig (Elt F)) (r : Ref sig .tc) (h : r ≠ main_v6) : afterCall V 0 (onTcRef r) = V (onTcRef r) := by
  unfold afterCall setOut
  exact Function.update_of_ne (StableHlo.devRef_ne_of_ne h) _ V
theorem afterCall0_self (V : Valuation τ sig (Elt F)) : afterCall V 0 (onTcRef main_v6) = gathered (listOf V 0) (tabOf V) := by
  unfold afterCall setOut
  exact Function.update_self _ _ V
theorem afterCall1_ne (V : Valuation τ sig (Elt F)) (r : Ref sig .tc) (h : r ≠ main_v8) : afterCall V 1 (onTcRef r) = V (onTcRef r) := by
  unfold afterCall setOut
  exact Function.update_of_ne (StableHlo.devRef_ne_of_ne h) _ V
theorem afterCall1_self (V : Valuation τ sig (Elt F)) : afterCall V 1 (onTcRef main_v8) = gathered (listOf V 1) (tabOf V) := by
  unfold afterCall setOut
  exact Function.update_self _ _ V
theorem afterCall2_ne (V : Valuation τ sig (Elt F)) (r : Ref sig .tc) (h : r ≠ main_v10) : afterCall V 2 (onTcRef r) = V (onTcRef r) := by
  unfold afterCall setOut
  exact Function.update_of_ne (StableHlo.devRef_ne_of_ne h) _ V
theorem afterCall2_self (V : Valuation τ sig (Elt F)) : afterCall V 2 (onTcRef main_v10) = gathered (listOf V 2) (tabOf V) := by
  unfold afterCall setOut
  exact Function.update_self _ _ V
theorem afterCall3_ne (V : Valuation τ sig (Elt F)) (r : Ref sig .tc) (h : r ≠ main_v12) : afterCall V 3 (onTcRef r) = V (onTcRef r) := by
  unfold afterCall setOut
  exact Function.update_of_ne (StableHlo.devRef_ne_of_ne h) _ V
theorem afterCall3_self (V : Valuation τ sig (Elt F)) : afterCall V 3 (onTcRef main_v12) = gathered (listOf V 3) (tabOf V) := by
  unfold afterCall setOut
  exact Function.update_self _ _ V
theorem afterCall4_ne (V : Valuation τ sig (Elt F)) (r : Ref sig .tc) (h : r ≠ main_v14) : afterCall V 4 (onTcRef r) = V (onTcRef r) := by
  unfold afterCall setOut
  exact Function.update_of_ne (StableHlo.devRef_ne_of_ne h) _ V
theorem afterCall4_self (V : Valuation τ sig (Elt F)) : afterCall V 4 (onTcRef main_v14) = gathered (listOf V 4) (tabOf V) := by
  unfold afterCall setOut
  exact Function.update_self _ _ V

/-- A call leaves alone every buffer but its output. -/
theorem afterCall_kept (V : Valuation τ sig (Elt F)) (q : Fin 5) (r : Ref sig .tc) (h : r ∉ [main_v6, main_v8, main_v10, main_v12, main_v14]) :
    afterCall V q (onTcRef r) = V (onTcRef r) := by
  simp only [List.mem_cons, List.not_mem_nil, or_false, not_or] at h
  obtain ⟨h0, h1, h2, h3, h4⟩ := h
  match q with
  | 0 => exact afterCall0_ne V r h0
  | 1 => exact afterCall1_ne V r h1
  | 2 => exact afterCall2_ne V r h2
  | 3 => exact afterCall3_ne V r h3
  | 4 => exact afterCall4_ne V r h4

theorem listOps0_kept (V : Valuation τ sig (Elt F)) (r : Ref sig .tc) (h : r ∉ [main_c, main_v5]) : StableHlo.after listOps0 V (onTcRef r) = V (onTcRef r) :=
  StableHlo.after_unwritten [main_c, main_v5] rfl h V
theorem listOps0_list (V : Valuation τ sig (Elt F)) : StableHlo.after listOps0 V (onTcRef main_v5) = stretch (V (onTcRef main_v1)) (fun _ => constantI S_ 32 0#32) := by
  unfold listOps0
  after_results
  funext z
  refine congrArg (fun i => stretch (V (onTcRef main_v1)) i z) (funext fun k => ?_)
  match k with
  | 0 => exact StableHlo.nullary_result _ _ _ V
theorem listOps1_kept (V : Valuation τ sig (Elt F)) (r : Ref sig .tc) (h : r ∉ [main_c_0, main_v7]) : StableHlo.after listOps1 V (onTcRef r) = V (onTcRef r) :=
  StableHlo.after_unwritten [main_c_0, main_v7] rfl h V
theorem listOps1_list (V : Valuation τ sig (Elt F)) : StableHlo.after listOps1 V (onTcRef main_v7) = stretch (V (onTcRef main_v1)) (fun _ => constantI S_ 32 40960#32) := by
  unfold listOps1
  after_results
  funext z
  refine congrArg (fun i => stretch (V (onTcRef main_v1)) i z) (funext fun k => ?_)
  match k with
  | 0 => exact StableHlo.nullary_result _ _ _ V
theorem listOps2_kept (V : Valuation τ sig (Elt F)) (r : Ref sig .tc) (h : r ∉ [main_c_1, main_v9]) : StableHlo.after listOps2 V (onTcRef r) = V (onTcRef r) :=
  StableHlo.after_unwritten [main_c_1, main_v9] rfl h V
theorem listOps2_list (V : Valuation τ sig (Elt F)) : StableHlo.after listOps2 V (onTcRef main_v9) = stretch (V (onTcRef main_v1)) (fun _ => constantI S_ 32 81920#32) := by
  unfold listOps2
  after_results
  funext z
  refine congrArg (fun i => stretch (V (onTcRef main_v1)) i z) (funext fun k => ?_)
  match k with
  | 0 => exact StableHlo.nullary_result _ _ _ V
theorem listOps3_kept (V : Valuation τ sig (Elt F)) (r : Ref sig .tc) (h : r ∉ [main_c_2, main_v11]) : StableHlo.after listOps3 V (onTcRef r) = V (onTcRef r) :=
  StableHlo.after_unwritten [main_c_2, main_v11] rfl h V
theorem listOps3_list (V : Valuation τ sig (Elt F)) : StableHlo.after listOps3 V (onTcRef main_v11) = stretch (V (onTcRef main_v1)) (fun _ => constantI S_ 32 122880#32) := by
  unfold listOps3
  after_results
  funext z
  refine congrArg (fun i => stretch (V (onTcRef main_v1)) i z) (funext fun k => ?_)
  match k with
  | 0 => exact StableHlo.nullary_result _ _ _ V
theorem listOps4_kept (V : Valuation τ sig (Elt F)) (r : Ref sig .tc) (h : r ∉ [main_c_3, main_v13]) : StableHlo.after listOps4 V (onTcRef r) = V (onTcRef r) :=
  StableHlo.after_unwritten [main_c_3, main_v13] rfl h V
theorem listOps4_list (V : Valuation τ sig (Elt F)) : StableHlo.after listOps4 V (onTcRef main_v13) = stretch (V (onTcRef main_v1)) (fun _ => constantI S_ 32 163840#32) := by
  unfold listOps4
  after_results
  funext z
  refine congrArg (fun i => stretch (V (onTcRef main_v1)) i z) (funext fun k => ?_)
  match k with
  | 0 => exact StableHlo.nullary_result _ _ _ V

/-- The buffers the five lists and calls write. -/
abbrev callRefs : List (Ref sig .tc) :=
  [main_c, main_c_0, main_c_1, main_c_2, main_c_3, main_v5, main_v7, main_v9, main_v11, main_v13, main_v6, main_v8, main_v10, main_v12, main_v14]

/-- A buffer that no list and no call writes. -/
theorem listed_kept (d : Dev nD) (q : Fin 5) (r : Ref sig .tc) (h : r ∉ callRefs) : listed m d q (onTcRef r) = prepared m d (onTcRef r) := by
  simp only [callRefs, List.mem_cons, List.not_mem_nil, or_false, not_or] at h
  have hc : ∀ (V : Valuation τ sig (Elt F)) (q : Fin 5), afterCall V q (onTcRef r) = V (onTcRef r) := fun V q => afterCall_kept V q r (by simp [h])
  have h0 : listed0 m d (onTcRef r) = prepared m d (onTcRef r) := listOps0_kept _ r (by simp [h])
  have h1 : listed1 m d (onTcRef r) = prepared m d (onTcRef r) := (listOps1_kept _ r (by simp [h])).trans ((hc _ _).trans h0)
  have h2 : listed2 m d (onTcRef r) = prepared m d (onTcRef r) := (listOps2_kept _ r (by simp [h])).trans ((hc _ _).trans h1)
  have h3 : listed3 m d (onTcRef r) = prepared m d (onTcRef r) := (listOps3_kept _ r (by simp [h])).trans ((hc _ _).trans h2)
  have h4 : listed4 m d (onTcRef r) = prepared m d (onTcRef r) := (listOps4_kept _ r (by simp [h])).trans ((hc _ _).trans h3)
  match q with
  | 0 => exact h0
  | 1 => exact h1
  | 2 => exact h2
  | 3 => exact h3
  | 4 => exact h4

/-- The same after the fifth call. -/
theorem looked_kept (d : Dev nD) (r : Ref sig .tc) (h : r ∉ callRefs) : looked m d (onTcRef r) = prepared m d (onTcRef r) :=
  (afterCall_kept _ _ r fun hr => h (List.mem_append_right [main_c, main_c_0, main_c_1, main_c_2, main_c_3, main_v5, main_v7, main_v9, main_v11, main_v13] hr)).trans (listed_kept m d 4 r h)

theorem lists0_eq (d : Dev nD) : lists m 0 d = stretch (line (argX m d)) (fun _ => constantI S_ 32 0#32) :=
  (listOps0_list (prepared m d)).trans (congrArg (fun x => stretch x (fun _ => constantI S_ 32 0#32)) (prepared_line m d))
theorem lists1_eq (d : Dev nD) : lists m 1 d = stretch (line (argX m d)) (fun _ => constantI S_ 32 40960#32) :=
  (listOps1_list (afterCall (listed0 m d) 0)).trans (congrArg (fun x => stretch x (fun _ => constantI S_ 32 40960#32)) ((afterCall_kept _ _ _ (by decide)).trans ((listed_kept m d 0 main_v1 (by decide)).trans (prepared_line m d))))
theorem lists2_eq (d : Dev nD) : lists m 2 d = stretch (line (argX m d)) (fun _ => constantI S_ 32 81920#32) :=
  (listOps2_list (afterCall (listed1 m d) 1)).trans (congrArg (fun x => stretch x (fun _ => constantI S_ 32 81920#32)) ((afterCall_kept _ _ _ (by decide)).trans ((listed_kept m d 1 main_v1 (by decide)).trans (prepared_line m d))))
theorem lists3_eq (d : Dev nD) : lists m 3 d = stretch (line (argX m d)) (fun _ => constantI S_ 32 122880#32) :=
  (listOps3_list (afterCall (listed2 m d) 2)).trans (congrArg (fun x => stretch x (fun _ => constantI S_ 32 122880#32)) ((afterCall_kept _ _ _ (by decide)).trans ((listed_kept m d 2 main_v1 (by decide)).trans (prepared_line m d))))
theorem lists4_eq (d : Dev nD) : lists m 4 d = stretch (line (argX m d)) (fun _ => constantI S_ 32 163840#32) :=
  (listOps4_list (afterCall (listed3 m d) 3)).trans (congrArg (fun x => stretch x (fun _ => constantI S_ 32 163840#32)) ((afterCall_kept _ _ _ (by decide)).trans ((listed_kept m d 3 main_v1 (by decide)).trans (prepared_line m d))))

/-- Call `q`'s list at an entry. -/
theorem lists_apply (q : Fin 5) (d : Dev nD) (z : Fin 40960) : lists m q d (ix1 z)
    = argX m d (ix2 (⟨z.val % 1024, Nat.mod_lt _ (by decide)⟩ : Fin 1024) (⟨40 * q.val + z.val / 1024, by have := z.isLt; have := q.isLt; omega⟩ : Fin 200)) := by
  have key : ∀ (q : Fin 5) (s : ℕ) (hs : s + 40960 ≤ 204800), s = 40960 * q.val → line (argX m d) (ix1 (⟨s + z.val, by have := z.isLt; omega⟩ : Fin 204800))
      = argX m d (ix2 (⟨z.val % 1024, Nat.mod_lt _ (by decide)⟩ : Fin 1024) (⟨40 * q.val + z.val / 1024, by have := z.isLt; have := q.isLt; omega⟩ : Fin 200)) := by
    rintro q s hs rfl
    rw [line_apply]
    congr 2
    · exact Fin.ext (by show (40960 * q.val + z.val) % 1024 = z.val % 1024; omega)
    · exact Fin.ext (by show (40960 * q.val + z.val) / 1024 = 40 * q.val + z.val / 1024; omega)
  match q with
  | 0 => rw [lists0_eq]; exact (stretch_apply _ 0#32 0 rfl (by decide) z).trans (key 0 0 (by decide) rfl)
  | 1 => rw [lists1_eq]; exact (stretch_apply _ 40960#32 40960 rfl (by decide) z).trans (key 1 40960 (by decide) rfl)
  | 2 => rw [lists2_eq]; exact (stretch_apply _ 81920#32 81920 rfl (by decide) z).trans (key 2 81920 (by decide) rfl)
  | 3 => rw [lists3_eq]; exact (stretch_apply _ 122880#32 122880 rfl (by decide) z).trans (key 3 122880 (by decide) rfl)
  | 4 => rw [lists4_eq]; exact (stretch_apply _ 163840#32 163840 rfl (by decide) z).trans (key 4 163840 (by decide) rfl)

/-- An argument whose entries are all rows of the table makes lists of rows of the table. -/
theorem lists_lt (hx : ∀ d i, (argX m d i).toNat < 1000000) (q : Fin 5) (d : Dev nD) (z : S40960.Idx) : (lists m q d z).toNat < 1000000 := by
  have hz : z = ix1 (z 0 : Fin 40960) := funext fun a => by match a with | 0 => rfl
  exact hz ▸ (lists_apply m q d (z 0)).symm ▸ hx d _

/-- What call 0 looked up, still there at the end of the calls. -/
theorem looked_out0 (d : Dev nD) : looked m d (onTcRef main_v6) = gathered (lists m 0 d) (table m d) := by
  refine (afterCall4_ne _ main_v6 (by decide)).trans ?_
  refine (listOps4_kept (afterCall (listed3 m d) 3) main_v6 (by decide)).trans ?_
  refine (afterCall3_ne _ main_v6 (by decide)).trans ?_
  refine (listOps3_kept (afterCall (listed2 m d) 2) main_v6 (by decide)).trans ?_
  refine (afterCall2_ne _ main_v6 (by decide)).trans ?_
  refine (listOps2_kept (afterCall (listed1 m d) 1) main_v6 (by decide)).trans ?_
  refine (afterCall1_ne _ main_v6 (by decide)).trans ?_
  refine (listOps1_kept (afterCall (listed0 m d) 0) main_v6 (by decide)).trans ?_
  refine (afterCall0_self _).trans ?_
  exact congrArg (gathered (lists m 0 d)) (table_kept m d 0).symm
/-- What call 1 looked up, still there at the end of the calls. -/
theorem looked_out1 (d : Dev nD) : looked m d (onTcRef main_v8) = gathered (lists m 1 d) (table m d) := by
  refine (afterCall4_ne _ main_v8 (by decide)).trans ?_
  refine (listOps4_kept (afterCall (listed3 m d) 3) main_v8 (by decide)).trans ?_
  refine (afterCall3_ne _ main_v8 (by decide)).trans ?_
  refine (listOps3_kept (afterCall (listed2 m d) 2) main_v8 (by decide)).trans ?_
  refine (afterCall2_ne _ main_v8 (by decide)).trans ?_
  refine (listOps2_kept (afterCall (listed1 m d) 1) main_v8 (by decide)).trans ?_
  refine (afterCall1_self _).trans ?_
  exact congrArg (gathered (lists m 1 d)) (table_kept m d 1).symm
/-- What call 2 looked up, still there at the end of the calls. -/
theorem looked_out2 (d : Dev nD) : looked m d (onTcRef main_v10) = gathered (lists m 2 d) (table m d) := by
  refine (afterCall4_ne _ main_v10 (by decide)).trans ?_
  refine (listOps4_kept (afterCall (listed3 m d) 3) main_v10 (by decide)).trans ?_
  refine (afterCall3_ne _ main_v10 (by decide)).trans ?_
  refine (listOps3_kept (afterCall (listed2 m d) 2) main_v10 (by decide)).trans ?_
  refine (afterCall2_self _).trans ?_
  exact congrArg (gathered (lists m 2 d)) (table_kept m d 2).symm
/-- What call 3 looked up, still there at the end of the calls. -/
theorem looked_out3 (d : Dev nD) : looked m d (onTcRef main_v12) = gathered (lists m 3 d) (table m d) := by
  refine (afterCall4_ne _ main_v12 (by decide)).trans ?_
  refine (listOps4_kept (afterCall (listed3 m d) 3) main_v12 (by decide)).trans ?_
  refine (afterCall3_self _).trans ?_
  exact congrArg (gathered (lists m 3 d)) (table_kept m d 3).symm
/-- What call 4 looked up, still there at the end of the calls. -/
theorem looked_out4 (d : Dev nD) : looked m d (onTcRef main_v14) = gathered (lists m 4 d) (table m d) := by
  refine (afterCall4_self _).trans ?_
  exact congrArg (gathered (lists m 4 d)) (table_kept m d 4).symm

end Cert.Proof.Lookup
-- ==== Proof.Scored.lean ====
/-
  What each of the five dense calls leaves in its result, over the extended reals: forty columns scored.
-/
module

public import proofs.«01_k».proof.Proof.Dense
public import proofs.«01_k».proof.Proof.Lists
public import Idealize.ShloMosaic.Lib.Pipeline.ValueKit

@[expose] public section

noncomputable section

namespace Cert.Proof.Lookup

open Cert.KernelIdeal Cert.KernelIdeal.Gen

open Idealize.ShloMosaic Idealize.ShloMosaic.TcCoe
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

set_option maxRecDepth 16384

/-- The results that the gathered rows `g` of one call give from column `s` on, at an entry. -/
def scoredAt (g : S40960x128.Idx → EReal) (w : S128x128.Idx → EReal) (b : S1x128.Idx → EReal) (u : S45x128.Idx → EReal) (c : S45x1.Idx → EReal)
    (s : ℕ) (y : S45x200x1024.Idx) : EReal :=
  scored (fun j => g (ix2 (⟨(1024 * ((y 1).val - s) + (y 2).val) % 40960, Nat.mod_lt _ (by decide)⟩ : Fin 40960) j)) (fun j k => w (ix2 j k))
    (fun k => b (ix2 (0 : Fin 1) k)) (fun k => u (ix2 (y 0) k)) (c (ix2 (y 0) (0 : Fin 1)))

/-! ## What each call leaves

Where each window's block lies, and the call's result: its own forty columns scored, the others as found. -/

variable (b : ℕ) (V : Valuation τ sig (Elt Ideal))

theorem places5 : ∀ t : Fin cfg5.N, win5_0.index t = ![t.val, 0] ∧ win5_1.index t = ![0, 0] ∧ win5_2.index t = ![0, 0]
    ∧ win5_3.index t = ![0, 0] ∧ win5_4.index t = ![0, 0] ∧ win5_5.index t = ![0, 0 + t.val, 0] := by decide +kernel

theorem call0_out (c : Dev nD) : Pipeline.afterRegion (dat5 b V c) V (onTcRef main_v15)
    = fun y => if 0 ≤ (y 1).val ∧ (y 1).val < 40
        then scoredAt (V (onTcRef main_v6)) (V (onTcRef main_v2)) (V (onTcRef main_v3)) (V (onTcRef main_arg4)) (V (onTcRef main_v4)) 0 y
        else V (onTcRef main_v15) y := by
  refine (Pipeline.afterRegion_arr (dat5 b V c) V winFacts5.arr_inj 5).trans ?_
  refine Pipeline.Dat.arrAt_eq_of_coversWhere (dat5 b V c) 5 _ (fun β => 0 ≤ β (1 : Fin 3) ∧ β (1 : Fin 3) < 5) (by decide +kernel) (fun t _ y => ?_) (fun j => ?_)
  · blk_simp
    rw [after5_5]
    obtain ⟨e0, e1, e2, e3, e4, e5⟩ := places5 t
    have hy : y = ix3 (n0 := 45) (n1 := 8) (n2 := 1024) (y 0) (y 1) (y 2) := eq_ix3 y
    rw [hy]
    refine (mlpBlock_apply _ _ _ _ _ (y 0) (y 1) (y 2)).trans ?_
    unfold scoredAt
    have ht := t.isLt
    congr 1
    · funext j
      blk_ext [blk5, e0, e5]
    · funext j k
      blk_ext [blk5, e1, e5]
    · funext k
      blk_ext [blk5, e2, e5]
    · funext k
      blk_ext [blk5, e3, e5]
    · blk_ext [blk5, e4, e5]
  · blk_simp [Pipeline.Window.cell_apply]; omega

theorem places6 : ∀ t : Fin cfg6.N, win6_0.index t = ![t.val, 0] ∧ win6_1.index t = ![0, 0] ∧ win6_2.index t = ![0, 0]
    ∧ win6_3.index t = ![0, 0] ∧ win6_4.index t = ![0, 0] ∧ win6_5.index t = ![0, 5 + t.val, 0] := by decide +kernel

theorem call1_out (c : Dev nD) : Pipeline.afterRegion (dat6 b V c) V (onTcRef main_v16)
    = fun y => if 40 ≤ (y 1).val ∧ (y 1).val < 80
        then scoredAt (V (onTcRef main_v8)) (V (onTcRef main_v2)) (V (onTcRef main_v3)) (V (onTcRef main_arg4)) (V (onTcRef main_v4)) 40 y
        else V (onTcRef main_v16) y := by
  refine (Pipeline.afterRegion_arr (dat6 b V c) V winFacts6.arr_inj 5).trans ?_
  refine Pipeline.Dat.arrAt_eq_of_coversWhere (dat6 b V c) 5 _ (fun β => 5 ≤ β (1 : Fin 3) ∧ β (1 : Fin 3) < 10) (by decide +kernel) (fun t _ y => ?_) (fun j => ?_)
  · blk_simp
    rw [after6_5]
    obtain ⟨e0, e1, e2, e3, e4, e5⟩ := places6 t
    have hy : y = ix3 (n0 := 45) (n1 := 8) (n2 := 1024) (y 0) (y 1) (y 2) := eq_ix3 y
    rw [hy]
    refine (mlpBlock_apply _ _ _ _ _ (y 0) (y 1) (y 2)).trans ?_
    unfold scoredAt
    have ht := t.isLt
    congr 1
    · funext j
      blk_ext [blk6, e0, e5]
    · funext j k
      blk_ext [blk6, e1, e5]
    · funext k
      blk_ext [blk6, e2, e5]
    · funext k
      blk_ext [blk6, e3, e5]
    · blk_ext [blk6, e4, e5]
  · blk_simp [Pipeline.Window.cell_apply]; omega

theorem places7 : ∀ t : Fin cfg7.N, win7_0.index t = ![t.val, 0] ∧ win7_1.index t = ![0, 0] ∧ win7_2.index t = ![0, 0]
    ∧ win7_3.index t = ![0, 0] ∧ win7_4.index t = ![0, 0] ∧ win7_5.index t = ![0, 10 + t.val, 0] := by decide +kernel

theorem call2_out (c : Dev nD) : Pipeline.afterRegion (dat7 b V c) V (onTcRef main_v17)
    = fun y => if 80 ≤ (y 1).val ∧ (y 1).val < 120
        then scoredAt (V (onTcRef main_v10)) (V (onTcRef main_v2)) (V (onTcRef main_v3)) (V (onTcRef main_arg4)) (V (onTcRef main_v4)) 80 y
        else V (onTcRef main_v17) y := by
  refine (Pipeline.afterRegion_arr (dat7 b V c) V winFacts7.arr_inj 5).trans ?_
  refine Pipeline.Dat.arrAt_eq_of_coversWhere (dat7 b V c) 5 _ (fun β => 10 ≤ β (1 : Fin 3) ∧ β (1 : Fin 3) < 15) (by decide +kernel) (fun t _ y => ?_) (fun j => ?_)
  · blk_simp
    rw [after7_5]
    obtain ⟨e0, e1, e2, e3, e4, e5⟩ := places7 t
    have hy : y = ix3 (n0 := 45) (n1 := 8) (n2 := 1024) (y 0) (y 1) (y 2) := eq_ix3 y
    rw [hy]
    refine (mlpBlock_apply _ _ _ _ _ (y 0) (y 1) (y 2)).trans ?_
    unfold scoredAt
    have ht := t.isLt
    congr 1
    · funext j
      blk_ext [blk7, e0, e5]
    · funext j k
      blk_ext [blk7, e1, e5]
    · funext k
      blk_ext [blk7, e2, e5]
    · funext k
      blk_ext [blk7, e3, e5]
    · blk_ext [blk7, e4, e5]
  · blk_simp [Pipeline.Window.cell_apply]; omega

theorem places8 : ∀ t : Fin cfg8.N, win8_0.index t = ![t.val, 0] ∧ win8_1.index t = ![0, 0] ∧ win8_2.index t = ![0, 0]
    ∧ win8_3.index t = ![0, 0] ∧ win8_4.index t = ![0, 0] ∧ win8_5.index t = ![0, 15 + t.val, 0] := by decide +kernel

theorem call3_out (c : Dev nD) : Pipeline.afterRegion (dat8 b V c) V (onTcRef main_v18)
    = fun y => if 120 ≤ (y 1).val ∧ (y 1).val < 160
        then scoredAt (V (onTcRef main_v12)) (V (onTcRef main_v2)) (V (onTcRef main_v3)) (V (onTcRef main_arg4)) (V (onTcRef main_v4)) 120 y
        else V (onTcRef main_v18) y := by
  refine (Pipeline.afterRegion_arr (dat8 b V c) V winFacts8.arr_inj 5).trans ?_
  refine Pipeline.Dat.arrAt_eq_of_coversWhere (dat8 b V c) 5 _ (fun β => 15 ≤ β (1 : Fin 3) ∧ β (1 : Fin 3) < 20) (by decide +kernel) (fun t _ y => ?_) (fun j => ?_)
  · blk_simp
    rw [after8_5]
    obtain ⟨e0, e1, e2, e3, e4, e5⟩ := places8 t
    have hy : y = ix3 (n0 := 45) (n1 := 8) (n2 := 1024) (y 0) (y 1) (y 2) := eq_ix3 y
    rw [hy]
    refine (mlpBlock_apply _ _ _ _ _ (y 0) (y 1) (y 2)).trans ?_
    unfold scoredAt
    have ht := t.isLt
    congr 1
    · funext j
      blk_ext [blk8, e0, e5]
    · funext j k
      blk_ext [blk8, e1, e5]
    · funext k
      blk_ext [blk8, e2, e5]
    · funext k
      blk_ext [blk8, e3, e5]
    · blk_ext [blk8, e4, e5]
  · blk_simp [Pipeline.Window.cell_apply]; omega

theorem places9 : ∀ t : Fin cfg9.N, win9_0.index t = ![t.val, 0] ∧ win9_1.index t = ![0, 0] ∧ win9_2.index t = ![0, 0]
    ∧ win9_3.index t = ![0, 0] ∧ win9_4.index t = ![0, 0] ∧ win9_5.index t = ![0, 20 + t.val, 0] := by decide +kernel

theorem call4_out (c : Dev nD) : Pipeline.afterRegion (dat9 b V c) V (onTcRef main_v19)
    = fun y => if 160 ≤ (y 1).val ∧ (y 1).val < 200
        then scoredAt (V (onTcRef main_v14)) (V (onTcRef main_v2)) (V (onTcRef main_v3)) (V (onTcRef main_arg4)) (V (onTcRef main_v4)) 160 y
        else V (onTcRef main_v19) y := by
  refine (Pipeline.afterRegion_arr (dat9 b V c) V winFacts9.arr_inj 5).trans ?_
  refine Pipeline.Dat.arrAt_eq_of_coversWhere (dat9 b V c) 5 _ (fun β => 20 ≤ β (1 : Fin 3) ∧ β (1 : Fin 3) < 25) (by decide +kernel) (fun t _ y => ?_) (fun j => ?_)
  · blk_simp
    rw [after9_5]
    obtain ⟨e0, e1, e2, e3, e4, e5⟩ := places9 t
    have hy : y = ix3 (n0 := 45) (n1 := 8) (n2 := 1024) (y 0) (y 1) (y 2) := eq_ix3 y
    rw [hy]
    refine (mlpBlock_apply _ _ _ _ _ (y 0) (y 1) (y 2)).trans ?_
    unfold scoredAt
    have ht := t.isLt
    congr 1
    · funext j
      blk_ext [blk9, e0, e5]
    · funext j k
      blk_ext [blk9, e1, e5]
    · funext k
      blk_ext [blk9, e2, e5]
    · funext k
      blk_ext [blk9, e3, e5]
    · blk_ext [blk9, e4, e5]
  · blk_simp [Pipeline.Window.cell_apply]; omega

end Cert.Proof.Lookup
-- ==== Proof.Kept.lean ====
/-
  What the program leaves alone: a TensorCore call changes one buffer, a host operation one, so the arguments end as they
  started. With the run, the program's frame at any float values.
-/
module

public import proofs.«01_k».proof.Proof.Lists
public import Idealize.ShloMosaic.Lib.Pipeline.RegionArraysS

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- Every entry of a device's index argument is a row of the table. -/
def InVocab (m : (ℓ : Loc nD τ sig) → Buf (Elt F) ℓ) : Prop := ∀ d i, (argX m d i).toNat < 1000000

variable (b : ℕ) (W : Dev nD → Valuation τ sig (Elt F)) (V : Valuation τ sig (Elt F))

/-! A call changes only its result's buffer, and a host copy only the buffer it copies to. -/

theorem call0_kept (c : Dev nD) (r : Ref sig .tc) (h : r ≠ main_v15) :
    Pipeline.afterRegion (dat5 b V c) V (onTcRef r) = V (onTcRef r) :=
  Pipeline.afterRegion_keeps (dat5 b V c) V winFacts5.arr_inj (fun _ => rfl) r fun w hw => by
    match w with
    | ⟨0, _⟩ => rfl
    | ⟨1, _⟩ => rfl
    | ⟨2, _⟩ => rfl
    | ⟨3, _⟩ => rfl
    | ⟨4, _⟩ => rfl
    | ⟨5, _⟩ => exact absurd hw.symm h
theorem call1_kept (c : Dev nD) (r : Ref sig .tc) (h : r ≠ main_v16) :
    Pipeline.afterRegion (dat6 b V c) V (onTcRef r) = V (onTcRef r) :=
  Pipeline.afterRegion_keeps (dat6 b V c) V winFacts6.arr_inj (fun _ => rfl) r fun w hw => by
    match w with
    | ⟨0, _⟩ => rfl
    | ⟨1, _⟩ => rfl
    | ⟨2, _⟩ => rfl
    | ⟨3, _⟩ => rfl
    | ⟨4, _⟩ => rfl
    | ⟨5, _⟩ => exact absurd hw.symm h
theorem call2_kept (c : Dev nD) (r : Ref sig .tc) (h : r ≠ main_v17) :
    Pipeline.afterRegion (dat7 b V c) V (onTcRef r) = V (onTcRef r) :=
  Pipeline.afterRegion_keeps (dat7 b V c) V winFacts7.arr_inj (fun _ => rfl) r fun w hw => by
    match w with
    | ⟨0, _⟩ => rfl
    | ⟨1, _⟩ => rfl
    | ⟨2, _⟩ => rfl
    | ⟨3, _⟩ => rfl
    | ⟨4, _⟩ => rfl
    | ⟨5, _⟩ => exact absurd hw.symm h
theorem call3_kept (c : Dev nD) (r : Ref sig .tc) (h : r ≠ main_v18) :
    Pipeline.afterRegion (dat8 b V c) V (onTcRef r) = V (onTcRef r) :=
  Pipeline.afterRegion_keeps (dat8 b V c) V winFacts8.arr_inj (fun _ => rfl) r fun w hw => by
    match w with
    | ⟨0, _⟩ => rfl
    | ⟨1, _⟩ => rfl
    | ⟨2, _⟩ => rfl
    | ⟨3, _⟩ => rfl
    | ⟨4, _⟩ => rfl
    | ⟨5, _⟩ => exact absurd hw.symm h
theorem call4_kept (c : Dev nD) (r : Ref sig .tc) (h : r ≠ main_v19) :
    Pipeline.afterRegion (dat9 b V c) V (onTcRef r) = V (onTcRef r) :=
  Pipeline.afterRegion_keeps (dat9 b V c) V winFacts9.arr_inj (fun _ => rfl) r fun w hw => by
    match w with
    | ⟨0, _⟩ => rfl
    | ⟨1, _⟩ => rfl
    | ⟨2, _⟩ => rfl
    | ⟨3, _⟩ => rfl
    | ⟨4, _⟩ => rfl
    | ⟨5, _⟩ => exact absurd hw.symm h

theorem copyOp0_kept (r : Ref sig .tc) (h : r ≠ main_v16) : StableHlo.after [copyOp0] V (onTcRef r) = V (onTcRef r) :=
  StableHlo.after_unwritten [main_v16] rfl (fun hr => h (List.mem_singleton.mp hr)) V
theorem copyOp1_kept (r : Ref sig .tc) (h : r ≠ main_v17) : StableHlo.after [copyOp1] V (onTcRef r) = V (onTcRef r) :=
  StableHlo.after_unwritten [main_v17] rfl (fun hr => h (List.mem_singleton.mp hr)) V
theorem copyOp2_kept (r : Ref sig .tc) (h : r ≠ main_v18) : StableHlo.after [copyOp2] V (onTcRef r) = V (onTcRef r) :=
  StableHlo.after_unwritten [main_v18] rfl (fun hr => h (List.mem_singleton.mp hr)) V
theorem copyOp3_kept (r : Ref sig .tc) (h : r ≠ main_v19) : StableHlo.after [copyOp3] V (onTcRef r) = V (onTcRef r) :=
  StableHlo.after_unwritten [main_v19] rfl (fun hr => h (List.mem_singleton.mp hr)) V
theorem lastOp_kept (r : Ref sig .tc) (h : r ≠ main_v20) : StableHlo.after [lastOp] V (onTcRef r) = V (onTcRef r) :=
  StableHlo.after_unwritten [main_v20] rfl (fun hr => h (List.mem_singleton.mp hr)) V

/-- The buffers the tail writes. -/
abbrev tailRefs : List (Ref sig .tc) := [main_v15, main_v16, main_v17, main_v18, main_v19, main_v20]

/-! Any other buffer is as it was at the start, before each call and at the end. -/

theorem at1_kept (c : Dev nD) (r : Ref sig .tc) (h : r ∉ tailRefs) : at1 b W c (onTcRef r) = W c (onTcRef r) :=
  (copyOp0_kept _ r fun e => h (by rw [e]; decide)).trans ((call0_kept b (at0 W c) c r fun e => h (by rw [e]; decide)).trans rfl)
theorem at2_kept (c : Dev nD) (r : Ref sig .tc) (h : r ∉ tailRefs) : at2 b W c (onTcRef r) = W c (onTcRef r) :=
  (copyOp1_kept _ r fun e => h (by rw [e]; decide)).trans ((call1_kept b (at1 b W c) c r fun e => h (by rw [e]; decide)).trans (at1_kept b W c r h))
theorem at3_kept (c : Dev nD) (r : Ref sig .tc) (h : r ∉ tailRefs) : at3 b W c (onTcRef r) = W c (onTcRef r) :=
  (copyOp2_kept _ r fun e => h (by rw [e]; decide)).trans ((call2_kept b (at2 b W c) c r fun e => h (by rw [e]; decide)).trans (at2_kept b W c r h))
theorem at4_kept (c : Dev nD) (r : Ref sig .tc) (h : r ∉ tailRefs) : at4 b W c (onTcRef r) = W c (onTcRef r) :=
  (copyOp3_kept _ r fun e => h (by rw [e]; decide)).trans ((call3_kept b (at3 b W c) c r fun e => h (by rw [e]; decide)).trans (at3_kept b W c r h))
theorem atEnd_kept (c : Dev nD) (r : Ref sig .tc) (h : r ∉ tailRefs) : atEnd b W c (onTcRef r) = W c (onTcRef r) :=
  (lastOp_kept _ r fun e => h (by rw [e]; decide)).trans ((call4_kept b (at4 b W c) c r fun e => h (by rw [e]; decide)).trans (at4_kept b W c r h))

/-- A buffer neither a lookup nor the tail writes ends as the host's first operations left it. -/
theorem ended_kept (m : (ℓ : Loc nD τ sig) → Buf (Elt F) ℓ) (d : Dev nD) (r : Ref sig .tc) (h : r ∉ tailRefs) (h' : r ∉ callRefs) :
    ended m d (onTcRef r) = prepared m d (onTcRef r) :=
  (atEnd_kept topLev (looked m) d r h).trans (looked_kept m d r h')

/-- The arguments end as they started. -/
theorem args_kept (m : (ℓ : Loc nD τ sig) → Buf (Elt F) ℓ) (d : Dev nD) :
    ended m d (onTcRef main_arg0) = m ((d.tc : Thread nD τ).loc main_arg0)
    ∧ ended m d (onTcRef main_arg1) = m ((d.tc : Thread nD τ).loc main_arg1)
    ∧ ended m d (onTcRef main_arg2) = m ((d.tc : Thread nD τ).loc main_arg2)
    ∧ ended m d (onTcRef main_arg3) = m ((d.tc : Thread nD τ).loc main_arg3)
    ∧ ended m d (onTcRef main_arg4) = m ((d.tc : Thread nD τ).loc main_arg4)
    ∧ ended m d (onTcRef main_arg5) = m ((d.tc : Thread nD τ).loc main_arg5) :=
  ⟨(ended_kept m d main_arg0 (by decide) (by decide)).trans rfl,
    (ended_kept m d main_arg1 (by decide) (by decide)).trans rfl,
    (ended_kept m d main_arg2 (by decide) (by decide)).trans rfl,
    (ended_kept m d main_arg3 (by decide) (by decide)).trans rfl,
    (ended_kept m d main_arg4 (by decide) (by decide)).trans rfl,
    (ended_kept m d main_arg5 (by decide) (by decide)).trans rfl⟩

/-- A TensorCore buffer that is no scratch is one the run's end speaks of. -/
theorem arg_mem {r : Ref sig .tc} (h : r.isScoped = false) : onTcRef r ∈ Pipeline.ucRefs τ sig := Pipeline.devRef_mem_ucRefs h

/-- The program at any float values: it runs, its arguments end as they started, and every semaphore ends at zero. -/
theorem runs_keeping (m : (ℓ : Loc nD τ sig) → Buf (Elt F) ℓ) (g : Dev nD → PrngReg) [∀ e, Nonempty (Elt F e)] (hx : InVocab m) :
    θ_run (defs (F := F)) (threads (F := F)) ⟨m, fun _ => 0, g⟩ (fun r => (∀ c : Dev nD,
      r.2.mem ((c.tc : Thread nD τ).loc main_v20) = ended m c (onTcRef main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun r h => ⟨fun c => by
    obtain ⟨h0, h1, h2, h3, h4, h5⟩ := args_kept m c
    exact ⟨h.1 c _ (arg_mem rfl), (h.1 c _ (arg_mem rfl)).trans h0, (h.1 c _ (arg_mem rfl)).trans h1, (h.1 c _ (arg_mem rfl)).trans h2, (h.1 c _ (arg_mem rfl)).trans h3, (h.1 c _ (arg_mem rfl)).trans h4, (h.1 c _ (arg_mem rfl)).trans h5⟩, h.2⟩)
    (run_main m g (lists_lt m hx))

end Cert.Proof.Lookup
-- ==== Proof.Result.lean ====
/-
  The program's result over the extended reals, at an entry: the two dense layers on the table's row that the entry's index names.
-/
module

public import proofs.«01_k».proof.Proof.Scored
public import proofs.«01_k».proof.Proof.Kept

@[expose] public section

noncomputable section

namespace Cert.Proof.Lookup

open Cert.KernelIdeal Cert.KernelIdeal.Gen

open Idealize.ShloMosaic Idealize.ShloMosaic.TcCoe
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

set_option maxRecDepth 16384

/-- The scores, class `o` of the index at row `i` and column `l`: the two dense layers on the table's row it names. -/
def wanted (x : S1024x200.Idx → BitVec 32) (tab : S1000000x128.Idx → EReal) (w : S128x128.Idx → EReal) (b : S128.Idx → EReal)
    (u : S45x128.Idx → EReal) (c : S45.Idx → EReal) (i : Fin 1024) (l : Fin 200) (o : Fin 45) : EReal :=
  scored (fun j => tab (ix2 (⟨(x (ix2 i l)).toNat % 1000000, Nat.mod_lt _ (by decide)⟩ : Fin 1000000) j)) (fun j k => w (ix2 k j)) (fun k => b (ix1 k))
    (fun k => u (ix2 o k)) (c (ix1 o))

variable (m : (ℓ : Loc nD τ sig) → Buf (Elt Ideal) ℓ) (d : Dev nD)

/-- What the program computes, at an entry. -/
abbrev answer (i : Fin 1024) (l : Fin 200) (o : Fin 45) : EReal :=
  wanted (argX m d) (m ((SparseCore.T d).loc main_arg1)) (m ((SparseCore.T d).loc main_arg2)) (m ((SparseCore.T d).loc main_arg3))
    (m ((SparseCore.T d).loc main_arg4)) (m ((SparseCore.T d).loc main_arg5)) i l o

/-! The weights and biases as the dense calls find them. -/

theorem prepared_weights : prepared m d (onTcRef main_v2) = transpose S128x128 [1, 0] (m ((SparseCore.T d).loc main_arg2)) transposes_S128x128_S128x128_1_0 := by
  unfold prepared argOps
  after_results
theorem prepared_bias : prepared m d (onTcRef main_v3) = shapeCast S1x128 (m ((SparseCore.T d).loc main_arg3)) shapeCasts_S128_S1x128 := by
  unfold prepared argOps
  after_results
  rfl
theorem prepared_bias2 : prepared m d (onTcRef main_v4) = shapeCast S45x1 (m ((SparseCore.T d).loc main_arg5)) shapeCasts_S45_S45x1 := by
  unfold prepared argOps
  after_results
  rfl
theorem prepared_weights2 : prepared m d (onTcRef main_arg4) = m ((SparseCore.T d).loc main_arg4) := by
  unfold prepared argOps
  after_results

/-- The rows that call `q` looked up, scored: the answer at the call's columns. -/
theorem scored_call (q : Fin 5) (i : Fin 1024) (l : Fin 200) (o : Fin 45) (h : 40 * q.val ≤ l.val ∧ l.val < 40 * q.val + 40) :
    scoredAt (gathered (lists m q d) (table m d)) (prepared m d (onTcRef main_v2)) (prepared m d (onTcRef main_v3)) (prepared m d (onTcRef main_arg4))
      (prepared m d (onTcRef main_v4)) (40 * q.val) (ix3 o l i) = answer m d i l o := by
  rw [prepared_weights, prepared_bias, prepared_bias2, prepared_weights2]
  unfold answer wanted scoredAt
  have hi := i.isLt; have hq := q.isLt
  have hz : (1024 * (l.val - 40 * q.val) + i.val) % 40960 = 1024 * (l.val - 40 * q.val) + i.val := Nat.mod_eq_of_lt (by omega)
  congr 1
  · funext j
    show gathered (lists m q d) (table m d) (ix2 (⟨(1024 * (l.val - 40 * q.val) + i.val) % 40960, Nat.mod_lt _ (by decide)⟩ : Fin 40960) j) = _
    unfold gathered
    have hl := lists_apply m q d (⟨(1024 * (l.val - 40 * q.val) + i.val) % 40960, Nat.mod_lt _ (by decide)⟩ : Fin 40960)
    have hx : ValueIdx.ix2 (⟨(1024 * (l.val - 40 * q.val) + i.val) % 40960 % 1024, Nat.mod_lt _ (by decide)⟩ : Fin 1024)
        (⟨40 * q.val + (1024 * (l.val - 40 * q.val) + i.val) % 40960 / 1024, by omega⟩ : Fin 200) = ix2 i l := by
      rw [← ix2_eq_valueIdx]
      congr 1 <;> apply Fin.ext <;> simp only [hz] <;> omega
    rw [hx] at hl
    refine congrArg (table m d) ?_
    rw [ix2_eq_valueIdx]
    exact congrArg (ValueIdx.ix2 · j) (Fin.ext (congrArg (fun v : BitVec 32 => v.toNat % 1000000) hl))
  · funext j k
    pointwise
  · funext k
    pointwise
  · pointwise

/-- The same with the arrays under the names by which a dense call finds them. -/
theorem scored_found (V : Valuation τ sig (Elt Ideal)) (q : Fin 5) (g : S40960x128.Idx → EReal) (hg : g = gathered (lists m q d) (table m d))
    (h : ∀ r, r ∉ tailRefs → r ∉ callRefs → V (onTcRef r) = prepared m d (onTcRef r))
    (i : Fin 1024) (l : Fin 200) (o : Fin 45) (hl : 40 * q.val ≤ l.val ∧ l.val < 40 * q.val + 40) :
    scoredAt g (V (onTcRef main_v2)) (V (onTcRef main_v3)) (V (onTcRef main_arg4)) (V (onTcRef main_v4)) (40 * q.val) (ix3 o l i) = answer m d i l o := by
  rw [h main_v2 (by decide) (by decide), h main_v3 (by decide) (by decide), h main_arg4 (by decide) (by decide), h main_v4 (by decide) (by decide), hg]
  exact scored_call m d q i l o hl

/-! Each dense call leaves the answer at its forty columns and every other column as found; the next call finds what it left. -/

theorem left0 (i : Fin 1024) (l : Fin 200) (o : Fin 45) :
    Pipeline.afterRegion (dat5 topLev (at0 (looked m) d) d) (at0 (looked m) d) (onTcRef main_v15) (ix3 o l i)
      = if 0 ≤ l.val ∧ l.val < 40 then answer m d i l o else (at0 (looked m) d) (onTcRef main_v15) (ix3 o l i) := by
  rw [call0_out]
  refine if_congr Iff.rfl rfl rfl |>.trans ?_
  split
  · next hl => exact (scored_found m d (at0 (looked m) d) 0 _ (looked_out0 m d) (fun r h h' => looked_kept m d r h') i l o hl).trans (if_pos hl).symm
  · next hl => exact (if_neg hl).symm
theorem copied0 : at1 topLev (looked m) d (onTcRef main_v16) = Pipeline.afterRegion (dat5 topLev (at0 (looked m) d) d) (at0 (looked m) d) (onTcRef main_v15) := by
  unfold at1
  after_results
  rfl
theorem left1 (i : Fin 1024) (l : Fin 200) (o : Fin 45) :
    Pipeline.afterRegion (dat6 topLev (at1 topLev (looked m) d) d) (at1 topLev (looked m) d) (onTcRef main_v16) (ix3 o l i)
      = if 40 ≤ l.val ∧ l.val < 80 then answer m d i l o else (at1 topLev (looked m) d) (onTcRef main_v16) (ix3 o l i) := by
  rw [call1_out]
  refine if_congr Iff.rfl rfl rfl |>.trans ?_
  split
  · next hl => exact (scored_found m d (at1 topLev (looked m) d) 1 _ ((at1_kept topLev (looked m) d main_v8 (by decide)).trans (looked_out1 m d)) (fun r h h' => (at1_kept topLev (looked m) d r h).trans (looked_kept m d r h')) i l o hl).trans (if_pos hl).symm
  · next hl => exact (if_neg hl).symm
theorem copied1 : at2 topLev (looked m) d (onTcRef main_v17) = Pipeline.afterRegion (dat6 topLev (at1 topLev (looked m) d) d) (at1 topLev (looked m) d) (onTcRef main_v16) := by
  unfold at2
  after_results
  rfl
theorem left2 (i : Fin 1024) (l : Fin 200) (o : Fin 45) :
    Pipeline.afterRegion (dat7 topLev (at2 topLev (looked m) d) d) (at2 topLev (looked m) d) (onTcRef main_v17) (ix3 o l i)
      = if 80 ≤ l.val ∧ l.val < 120 then answer m d i l o else (at2 topLev (looked m) d) (onTcRef main_v17) (ix3 o l i) := by
  rw [call2_out]
  refine if_congr Iff.rfl rfl rfl |>.trans ?_
  split
  · next hl => exact (scored_found m d (at2 topLev (looked m) d) 2 _ ((at2_kept topLev (looked m) d main_v10 (by decide)).trans (looked_out2 m d)) (fun r h h' => (at2_kept topLev (looked m) d r h).trans (looked_kept m d r h')) i l o hl).trans (if_pos hl).symm
  · next hl => exact (if_neg hl).symm
theorem copied2 : at3 topLev (looked m) d (onTcRef main_v18) = Pipeline.afterRegion (dat7 topLev (at2 topLev (looked m) d) d) (at2 topLev (looked m) d) (onTcRef main_v17) := by
  unfold at3
  after_results
  rfl
theorem left3 (i : Fin 1024) (l : Fin 200) (o : Fin 45) :
    Pipeline.afterRegion (dat8 topLev (at3 topLev (looked m) d) d) (at3 topLev (looked m) d) (onTcRef main_v18) (ix3 o l i)
      = if 120 ≤ l.val ∧ l.val < 160 then answer m d i l o else (at3 topLev (looked m) d) (onTcRef main_v18) (ix3 o l i) := by
  rw [call3_out]
  refine if_congr Iff.rfl rfl rfl |>.trans ?_
  split
  · next hl => exact (scored_found m d (at3 topLev (looked m) d) 3 _ ((at3_kept topLev (looked m) d main_v12 (by decide)).trans (looked_out3 m d)) (fun r h h' => (at3_kept topLev (looked m) d r h).trans (looked_kept m d r h')) i l o hl).trans (if_pos hl).symm
  · next hl => exact (if_neg hl).symm
theorem copied3 : at4 topLev (looked m) d (onTcRef main_v19) = Pipeline.afterRegion (dat8 topLev (at3 topLev (looked m) d) d) (at3 topLev (looked m) d) (onTcRef main_v18) := by
  unfold at4
  after_results
  rfl
theorem left4 (i : Fin 1024) (l : Fin 200) (o : Fin 45) :
    Pipeline.afterRegion (dat9 topLev (at4 topLev (looked m) d) d) (at4 topLev (looked m) d) (onTcRef main_v19) (ix3 o l i)
      = if 160 ≤ l.val ∧ l.val < 200 then answer m d i l o else (at4 topLev (looked m) d) (onTcRef main_v19) (ix3 o l i) := by
  rw [call4_out]
  refine if_congr Iff.rfl rfl rfl |>.trans ?_
  split
  · next hl => exact (scored_found m d (at4 topLev (looked m) d) 4 _ ((at4_kept topLev (looked m) d main_v14 (by decide)).trans (looked_out4 m d)) (fun r h h' => (at4_kept topLev (looked m) d r h).trans (looked_kept m d r h')) i l o hl).trans (if_pos hl).symm
  · next hl => exact (if_neg hl).symm

/-- The program's result at an entry. -/
theorem ended_apply (i : Fin 1024) (l : Fin 200) (o : Fin 45) : ended m d (onTcRef main_v20) (ix3 i l o) = answer m d i l o := by
  have hl := l.isLt
  have e : ended m d (onTcRef main_v20) = transpose S1024x200x45 [2, 1, 0]
      (Pipeline.afterRegion (dat9 topLev (at4 topLev (looked m) d) d) (at4 topLev (looked m) d) (onTcRef main_v19)) transposes_S45x200x1024_S1024x200x45_2_1_0 := by
    unfold ended atEnd
    after_results
  rw [e]
  refine (transpose_apply [2, 1, 0] _ transposes_S45x200x1024_S1024x200x45_2_1_0 (ix3 i l o) (ix3 o l i) fun a => ?_).trans ?_
  · match a with
    | 0 => rfl
    | 1 => rfl
    | 2 => rfl
  rw [left4]; split
  · rfl
  rw [copied3, left3]; split
  · rfl
  rw [copied2, left2]; split
  · rfl
  rw [copied1, left1]; split
  · rfl
  rw [copied0, left0]; split
  · rfl
  omega

end Cert.Proof.Lookup
-- ==== Proof.Reference.lean ====
/-
  The reference's result over the extended reals, at an entry.
-/
module

public import proofs.«01_k».proof.Proof.Result
public import proofs.«01_k».proof.Proof.Gen.ReferenceIdeal.Run
public import Idealize.ShloMosaic.Lib.Pointwise
public import Idealize.ShloMosaic.Lib.ReduceAll
public import Idealize.ShloMosaic.Lib.WordCmp

@[expose] public section

noncomputable section

namespace Cert.Proof.Lookup

open Cert.ReferenceIdeal Cert.ReferenceIdeal.Gen

open Idealize.ShloMosaic Idealize.ShloMosaic.TcCoe
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

set_option maxRecDepth 16384

/-! ## The rows looked up -/

/-- An index as the reference reads it: a negative one counts from the table's end. -/
def refIdx (x : IVec S1024x200 32) : IVec S1024x200x1 32 :=
  broadcastInDim S1024x200x1 ![0, 1] bcast_S1024x200_S1024x200x1_0_1
    (select (cmpi .slt x (broadcastInDim S1024x200 ![] bcast_S_S1024x200 (constantI S_ 32 0#32)))
      (addi x (broadcastInDim S1024x200 ![] bcast_S_S1024x200 (constantI S_ 32 1000000#32))) x)

/-- The rows the reference looks up, a filler where an index is outside the table. -/
def refRows (x : IVec S1024x200 32) (tab : FVec Ideal S1000000x128 .f32) : FVec Ideal S1024x200x128 .f32 :=
  select (broadcastInDim S1024x200x128 ![0, 1] bcast_S1024x200_S1024x200x128_0_1
      (Host.reduce IntOp.andi
        (andi (cmpi .sge (refIdx x) (broadcastInDim S1024x200x1 ![] bcast_S_S1024x200x1 (constantI S_ 32 0#32)))
          (cmpi .sle (refIdx x) (broadcastInDim S1024x200x1 ![0, 1, 2] bcast_S1x1x1_S1024x200x1_0_1_2
            (broadcastInDim S1x1x1 ![2] bcast_S1_S1x1x1_2 (constantI S1 32 999999#32)))))
        (constantI S_ 1 1#1) reducesTo_S1024x200x1_S1024x200_d2 h_S_))
    (Host.gather gather_S1000000x128_S1024x200x1_S1024x200x128_2_0_n_n_0_2_1128 tab (refIdx x))
    (broadcastInDim S1024x200x128 ![] bcast_S_S1024x200x128 (constant (F := Ideal) S_ .f32 0x7FC00000#32))

/-- A word that is a row of the table is not negative and not past the table's last row. -/
theorem word_facts (v : BitVec 32) (h : v.toNat < 1000000) :
    IntOp.cmpi .slt v 0#32 = 0#1 ∧ IntOp.cmpi .sge v 0#32 = 1#1 ∧ IntOp.cmpi .sle v 999999#32 = 1#1 ∧ v.toInt.toNat = v.toNat := by
  have hv : v.toNat < 2 ^ (32 - 1) := by omega
  refine ⟨?_, ?_, ?_, by rw [WordCmp.toInt_eq_toNat_of_lt_half hv]; rfl⟩
  · rw [WordCmp.cmpi_slt_of_lt hv (by decide)]; simp
  · rw [WordCmp.cmpi_sge_of_lt hv (by decide)]; simp
  · rw [WordCmp.cmpi_sle_of_lt hv (by decide)]
    have : v.toNat ≤ (999999#32).toNat := by show v.toNat ≤ 999999; omega
    rw [decide_eq_true this]; rfl

/-- An index of the table is read as it stands. -/
theorem refIdx_apply (x : IVec S1024x200 32) (i : Fin 1024) (l : Fin 200) (z : Fin 1) (h : (x (ix2 i l)).toNat < 1000000) :
    refIdx x (ix3 i l z) = x (ix2 i l) := by
  pointwise [refIdx]
  rw [(word_facts _ h).1]
  rfl

/-- The reference's lookup at an entry: the named row of the table, clamped to the last one. -/
theorem gather_apply (tab : FVec Ideal S1000000x128 .f32) (idx : IVec S1024x200x1 32) (i : Fin 1024) (l : Fin 200) (j : Fin 128) :
    Host.gather gather_S1000000x128_S1024x200x1_S1024x200x128_2_0_n_n_0_2_1128 tab idx (ix3 i l j)
      = tab (ix2 (⟨min (idx (ix3 i l (0 : Fin 1))).toInt.toNat 999999, by omega⟩ : Fin 1000000) j) := by
  unfold Host.gather
  congr 1
  funext a
  refine Fin.ext ?_
  show GatherDims.start _ _ idx a + GatherDims.batchCoord _ _ a + GatherDims.offCoord _ _ a = _
  match a with
  | 0 =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x128_S1024x200x1_S1024x200x128_2_0_n_n_0_2_1128).startIndexMap from List.mem_singleton.mpr rfl)]
    have hsi : (gather_S1000000x128_S1024x200x1_S1024x200x128_2_0_n_n_0_2_1128).siIdx (ix3 i l j)
        ⟨List.idxOf (0 : Fin 2) (gather_S1000000x128_S1024x200x1_S1024x200x128_2_0_n_n_0_2_1128).startIndexMap,
          List.idxOf_lt_length_iff.2 (List.mem_singleton.mpr rfl)⟩ = ix3 i l (0 : Fin 1) := by
      funext b; refine Fin.ext ?_
      match b with
      | ⟨0, _⟩ => rfl
      | ⟨1, _⟩ => rfl
      | ⟨2, _⟩ => rfl
    rw [hsi]
    rfl
  | 1 =>
    rw [GatherDims.batchCoord_eq_zero _ _ _ List.not_mem_nil]
    unfold GatherDims.start
    rw [dif_neg (show ¬ (1 : Fin 2) ∈ (gather_S1000000x128_S1024x200x1_S1024x200x128_2_0_n_n_0_2_1128).startIndexMap from fun h => absurd (List.mem_singleton.mp h) (by decide))]
    simp only [Nat.zero_add, Nat.add_zero]
    rfl

/-- A choice made for a whole row at a time, read at an entry. -/
theorem masked_apply (p : IVec S1024x200 1) (a b : FVec Ideal S1024x200x128 .f32) (i : Fin 1024) (l : Fin 200) (j : Fin 128) :
    select (broadcastInDim S1024x200x128 ![0, 1] bcast_S1024x200_S1024x200x128_0_1 p) a b (ix3 i l j)
      = Scalar.select (p (ix2 i l)) (a (ix3 i l j)) (b (ix3 i l j)) := by
  pointwise

/-- Where every index is a row of the table, the reference looks that row up. -/
theorem refRows_apply (x : IVec S1024x200 32) (tab : FVec Ideal S1000000x128 .f32) (hx : ∀ y, (x y).toNat < 1000000) (i : Fin 1024) (l : Fin 200) (j : Fin 128) :
    refRows x tab (ix3 i l j) = tab (ix2 (⟨(x (ix2 i l)).toNat % 1000000, Nat.mod_lt _ (by decide)⟩ : Fin 1000000) j) := by
  have hone : Host.reduce IntOp.andi
        (andi (cmpi .sge (refIdx x) (broadcastInDim S1024x200x1 ![] bcast_S_S1024x200x1 (constantI S_ 32 0#32)))
          (cmpi .sle (refIdx x) (broadcastInDim S1024x200x1 ![0, 1, 2] bcast_S1x1x1_S1024x200x1_0_1_2
            (broadcastInDim S1x1x1 ![2] bcast_S1_S1x1x1_2 (constantI S1 32 999999#32)))))
        (constantI S_ 1 1#1) reducesTo_S1024x200x1_S1024x200_d2 h_S_ (ix2 i l) = 1#1 := by
    refine Host.reduce_andi_one _ _ _ _ _ rfl (fun y => ?_)
    have hy : refIdx x y = x (ix2 (n0 := 1024) (n1 := 200) (y 0) (y 1)) :=
      (congrArg (refIdx x) (eq_ix3 (n0 := 1024) (n1 := 200) (n2 := 1) y)).trans (refIdx_apply x _ _ _ (hx _))
    pointwise
    rw [hy, (word_facts _ (hx _)).2.1, (word_facts _ (hx _)).2.2.1]
    rfl
  have hsel : refRows x tab (ix3 i l j) = Host.gather gather_S1000000x128_S1024x200x1_S1024x200x128_2_0_n_n_0_2_1128 tab (refIdx x) (ix3 i l j) := by
    unfold refRows
    rw [masked_apply, hone]
    rfl
  rw [hsel, gather_apply]
  refine congrArg (fun r => tab (ix2 r j)) (Fin.ext ?_)
  have := hx (ix2 i l)
  show min (refIdx x (ix3 i l 0)).toInt.toNat 999999 = (x (ix2 i l)).toNat % 1000000
  rw [refIdx_apply x i l 0 this, (word_facts _ this).2.2.2]; omega

/-! ## The two dense layers -/

/-- The reference's two dense layers. -/
def refOut (h : FVec Ideal S1024x200x128 .f32) (w : FVec Ideal S128x128 .f32) (b : FVec Ideal S128 .f32) (u : FVec Ideal S45x128 .f32) (c : FVec Ideal S45 .f32) :
    FVec Ideal S1024x200x45 .f32 :=
  addf (Host.dotGeneral dot_S1024x200x128_S128x45_S1024x200x45_2_0_01_1_n_n none
      (maximumf (addf (Host.dotGeneral dot_S1024x200x128_S128x128_S1024x200x128_2_0_01_1_n_n none h (transpose S128x128 [1, 0] w transposes_S128x128_S128x128_1_0))
          (broadcastInDim S1024x200x128 ![0, 1, 2] bcast_S1x1x128_S1024x200x128_0_1_2 (broadcastInDim S1x1x128 ![2] bcast_S128_S1x1x128_2 b)))
        (broadcastInDim S1024x200x128 ![] bcast_S_S1024x200x128 (constant S_ .f32 0x00000000#32)))
      (transpose S128x45 [1, 0] u transposes_S45x128_S128x45_1_0))
    (broadcastInDim S1024x200x45 ![0, 1, 2] bcast_S1x1x45_S1024x200x45_0_1_2 (broadcastInDim S1x1x45 ![2] bcast_S45_S1x1x45_2 c))

/-- The reference's layers at an entry. -/
theorem refOut_apply (h : FVec Ideal S1024x200x128 .f32) (w : FVec Ideal S128x128 .f32) (b : FVec Ideal S128 .f32) (u : FVec Ideal S45x128 .f32) (c : FVec Ideal S45 .f32)
    (i : Fin 1024) (l : Fin 200) (o : Fin 45) :
    refOut h w b u c (ix3 i l o) = scored (fun j => h (ix3 i l j)) (fun j k => w (ix2 k j)) (fun k => b (ix1 k)) (fun k => u (ix2 o k)) (c (ix1 o)) := by
  unfold scored
  pointwise [refOut]
  simp only [mul_comm]

/-- The reference's result at an entry. -/
theorem ref_apply (x : IVec S1024x200 32) (tab : FVec Ideal S1000000x128 .f32) (w : FVec Ideal S128x128 .f32) (b : FVec Ideal S128 .f32)
    (u : FVec Ideal S45x128 .f32) (c : FVec Ideal S45 .f32) (hx : ∀ y, (x y).toNat < 1000000) (i : Fin 1024) (l : Fin 200) (o : Fin 45) :
    refOut (refRows x tab) w b u c (ix3 i l o) = wanted x tab w b u c i l o := by
  rw [refOut_apply]
  unfold wanted
  simp only [refRows_apply x tab hx]

end Cert.Proof.Lookup
-- ==== Proof.Words.lean ====
/-
  The kernel's text is the idealized kernel's: what is proved of a run of the one over any float values is proved of the other.
-/
module

public import proofs.«01_k».proof.Proof.Kept
public import proofs.«01_k».proof.Defs
public import proofs.«01_k».proof.Proof.Gen.Kernel

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

set_option maxHeartbeats 0 in
set_option maxRecDepth 65536 in
/-- The two programs' kernel functions are the same, label by label and processor by processor. -/
theorem bodies_same : (Cert.Kernel.defs₀ (F := F)) = Cert.KernelIdeal.defs₀ (F := F) := by
  funext k l a
  cases k <;> fin_cases l <;> rfl

set_option maxHeartbeats 0 in
set_option maxRecDepth 65536 in
/-- So are the two programs' definitions, -/
theorem defs_same : (Cert.Kernel.defs (F := F)) = Cert.KernelIdeal.defs (F := F) :=
  congrArg (fun B => (Cert.KernelIdeal.sc (F := F)).defs (Pipeline.defs Cert.KernelIdeal.pcfgs B)) bodies_same

set_option maxHeartbeats 0 in
set_option maxRecDepth 65536 in
/-- their threads, -/
theorem threads_same : (Cert.Kernel.threads (F := F)) = Cert.KernelIdeal.threads (F := F) := rfl

set_option maxHeartbeats 0 in
set_option maxRecDepth 65536 in
/-- and what can be said of their runs. -/
theorem runs_same {s Q}
    (h : θ_run (Cert.KernelIdeal.defs (F := F)) (Cert.KernelIdeal.threads (F := F)) s Q) :
    θ_run (Cert.Kernel.defs (F := F)) (Cert.Kernel.threads (F := F)) s Q := by
  have key : ∀ B, B = Cert.KernelIdeal.defs (F := F) → ∀ t, t = Cert.KernelIdeal.threads (F := F) → θ_run B t s Q := by
    rintro _ rfl _ rfl; exact h
  exact key _ defs_same _ threads_same

end Cert.Proof.Lookup
-- ==== Proof.Frames.lean ====
/-
  The precondition read as a bound on the indices, and the frames of the three programs.
-/
module

public import proofs.«01_k».proof.Proof.Kept
public import proofs.«01_k».proof.Proof.Words
public import proofs.«01_k».proof.Defs
public import proofs.«01_k».proof.Proof.Gen.Kernel
public import proofs.«01_k».proof.Proof.Gen.Pre_in_vocab
public import proofs.«01_k».proof.Proof.Gen.ReferenceIdeal.Run
public import Idealize.ShloMosaic.Lib.ReduceAll

@[expose] public section

noncomputable section

namespace Cert.Proof.Lookup

open Cert.KernelIdeal Cert.KernelIdeal.Gen

open Idealize.ShloMosaic Idealize.ShloMosaic.TcCoe Idealize.ShloMosaic.ValueIdx
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

/-- A word between 0 and the table's length, read as a signed number, is a row of the table. -/
theorem row_of_bits (v : BitVec 32) (h : IntOp.andi (IntOp.cmpi .sge v 0#32) (IntOp.cmpi .slt v 1000000#32) = 1#1) : v.toNat < 1000000 := by
  have hand : ∀ p q : Bool, IntOp.andi (BitVec.ofBool p) (BitVec.ofBool q) = BitVec.ofBool (p && q) := by decide
  have hone : ∀ p : Bool, (BitVec.ofBool p = 1#1) ↔ p = true := by decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at h
  omega

instance : Subsingleton Cert.Pre_in_vocab.S_.Idx := ⟨fun _ _ => funext fun a => Fin.elim0 a⟩

attribute [local instance] Cert.Pre_in_vocab.Gen.facts

/-- The precondition, as printed, of six arrays says that every entry of the first is a row of the table. -/
theorem rows_of_pre (x : IVec Cert.Pre_in_vocab.S1024x200 32) (x1 : FVec F Cert.Pre_in_vocab.S1000000x128 .f32) (x2 : FVec F Cert.Pre_in_vocab.S128x128 .f32)
    (x3 : FVec F Cert.Pre_in_vocab.S128 .f32) (x4 : FVec F Cert.Pre_in_vocab.S45x128 .f32) (x5 : FVec F Cert.Pre_in_vocab.S45 .f32)
    (h : Cert.Pre_in_vocab.fn x x1 x2 x3 x4 x5 = fun _ => 1#1) (i : Cert.Pre_in_vocab.S1024x200.Idx) : (x i).toNat < 1000000 := by
  unfold Cert.Pre_in_vocab.fn at h
  exact row_of_bits _ (Host.reduce_andi_all _ _ _ _ _ (congrFun h ix0) i)

/-- The idealized kernel's precondition bounds its indices. -/
theorem inVocab_of_pre (m : (ℓ : Loc nD τ sig) → Buf (Elt Ideal) ℓ) (h : Cert.Pre_KernelIdeal m) : InVocab m :=
  fun d i => rows_of_pre _ _ _ _ _ _ (h d) i

/-- The kernel's precondition bounds its indices. -/
theorem inVocab_of_pre_bits (m : (ℓ : Loc nD τ sig) → Buf (Elt Bits) ℓ) (h : Cert.Pre_Kernel m) : InVocab m :=
  fun d i => rows_of_pre _ _ _ _ _ _ (h d) i

set_option maxHeartbeats 0 in
set_option maxRecDepth 65536 in
/-- `Cert.quiescent_Kernel`: the kernel's text is the idealized kernel's, run here on words. -/
theorem frame_kernel : Cert.quiescent_Kernel := fun m g h =>
  runs_same ((θ_run Cert.KernelIdeal.defs _ _).mono (fun _ h => ⟨fun c => (h.1 c).2, h.2⟩)
    (runs_keeping (F := Bits) m g (inVocab_of_pre_bits m h)))

/-- `Cert.quiescent_KernelIdeal`: the same run over the extended reals. -/
theorem frame_kernelIdeal : Cert.quiescent_KernelIdeal := fun m g h =>
  (θ_run Cert.KernelIdeal.defs _ _).mono (fun _ h => ⟨fun c => (h.1 c).2, h.2⟩) (runs_keeping (F := Ideal) m g (inVocab_of_pre m h))

/-- `Cert.quiescent_ReferenceIdeal`: the reference runs host operations alone and declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- `Cert.quiescent_ReferenceIdeal_pre_in_vocab`: in particular where the precondition holds. -/
theorem frame_reference_in_vocab : Cert.quiescent_ReferenceIdeal_pre_in_vocab := fun m g _ => frame_reference m g trivial

end Cert.Proof.Lookup
-- ==== Proof.Equal.lean ====
/-
  The kernel's result and the reference's are equal over the extended reals.
-/
module

public import proofs.«01_k».proof.Proof.Reference
public import proofs.«01_k».proof.Proof.Frames

@[expose] public section

noncomputable section

namespace Cert.Proof.Lookup

open Cert.KernelIdeal Cert.KernelIdeal.Gen

open Idealize.ShloMosaic Idealize.ShloMosaic.TcCoe
open Idealize.ShloMosaic.Pipeline (Dat BodyObligation LaunchFacts RegionSeg HostSeg Seg)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] Cert.Pre_in_vocab.Gen.facts

set_option maxHeartbeats 0 in
set_option maxRecDepth 65536 in
/-- `Cert.algebraic_KernelIdeal_ReferenceIdeal`: from arguments that agree and satisfy the precondition, the kernel's
    result and the reference's are one array of extended reals. -/
theorem results_equal : Cert.algebraic_KernelIdeal_ReferenceIdeal := fun m g m' g' hpre hargs =>
  ⟨fun c => ended m c (onTcRef main_v20),
    (θ_run Cert.KernelIdeal.defs _ _).mono (fun _ h => h.1) (runs_keeping (F := Ideal) m g (inVocab_of_pre m hpre)),
    (θ_run Cert.ReferenceIdeal.defs _ _).mono (fun r h c => by
      refine ⟨(h c).1.trans ?_, (h c).2⟩
      obtain ⟨h0, h1, h2, h3, h4, h5⟩ := hargs c
      rw [h0, h1, h2, h3, h4, h5]
      refine funext fun (y : S1024x200x45.Idx) => ?_
      have hy : y = ix3 (n0 := 1024) (n1 := 200) (n2 := 45) (y 0) (y 1) (y 2) := eq_ix3 y
      have hr := ref_apply (argX m c) (m ((SparseCore.T c).loc main_arg1)) (m ((SparseCore.T c).loc main_arg2)) (m ((SparseCore.T c).loc main_arg3))
        (m ((SparseCore.T c).loc main_arg4)) (m ((SparseCore.T c).loc main_arg5)) (inVocab_of_pre m hpre c) (y 0) (y 1) (y 2)
      have hk := ended_apply m c (y 0) (y 1) (y 2)
      exact (congrArg _ hy).trans (hr.trans (hk.symm.trans (congrArg (ended m c (onTcRef main_v20)) hy.symm))))
      (Cert.ReferenceIdeal.Value.run (F := Ideal) m' g')⟩

end Cert.Proof.Lookup
-- ==== Proof.lean ====
/-
  The proof of `Cert.Claim`: the frames of the kernel, of the idealized kernel and of the reference, the
  kernel's idealization, and the equality of the kernel's result with the reference's over the extended reals.
  The modules under Proof/ hold the proofs; this one puts them together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Equal

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_vocab.Gen.facts,
  Lookup.frame_kernel, Lookup.frame_kernelIdeal, Lookup.frame_reference, Lookup.frame_reference_in_vocab, trivial, Lookup.results_equal⟩

end Cert.Proof

end
